-- ==== Defs.lean ====
def Pre_Kernel (m : (ℓ : Loc Cert.Kernel.nD Cert.Kernel.τ Cert.Kernel.sig) → Buf (Elt Bits) ℓ) : Prop :=
  True

def Pre_Kernel_canonical [hPre_canonical : Cert.Pre_canonical.Facts] (m : (ℓ : Loc Cert.Kernel.nD Cert.Kernel.τ Cert.Kernel.sig) → Buf (Elt Bits) ℓ) : Prop :=
  ∀ c : Dev Cert.Kernel.nD,
    (Cert.Pre_canonical.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Reference (m : (ℓ : Loc Cert.Reference.nD Cert.Reference.τ Cert.Reference.sig) → Buf (Elt Bits) ℓ) : Prop :=
  True

def Pre_Reference_canonical [hPre_canonical : Cert.Pre_canonical.Facts] (m : (ℓ : Loc Cert.Reference.nD Cert.Reference.τ Cert.Reference.sig) → Buf (Elt Bits) ℓ) : Prop :=
  ∀ c : Dev Cert.Reference.nD,
    (Cert.Pre_canonical.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_canonical [hKernel : Cert.Kernel.Facts] [hPre_canonical : Cert.Pre_canonical.Facts] : Prop :=
  ∀ (m : (ℓ : Loc Cert.Kernel.nD Cert.Kernel.τ Cert.Kernel.sig) → Buf (Elt Bits) ℓ) (g : Dev Cert.Kernel.nD → PrngReg), Pre_Kernel_canonical m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_canonical [hReference : Cert.Reference.Facts] [hPre_canonical : Cert.Pre_canonical.Facts] : Prop :=
  ∀ (m : (ℓ : Loc Cert.Reference.nD Cert.Reference.τ Cert.Reference.sig) → Buf (Elt Bits) ℓ) (g : Dev Cert.Reference.nD → PrngReg), Pre_Reference_canonical m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def bitexact_Kernel_Reference_pre_canonical [hKernel : Cert.Kernel.Facts] [hReference : Cert.Reference.Facts] [hPre_canonical : Cert.Pre_canonical.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_canonical m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)) (v1 : (c : Dev Cert.Kernel.nD) → Buf (Elt Bits) ((c.tc : Thread Cert.Kernel.nD Cert.Kernel.τ).loc Cert.Kernel.main_v1_1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_v1_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_v0) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hReference : Cert.Reference.Facts) (hPre_canonical : Cert.Pre_canonical.Facts),
    quiescent_Kernel (hKernel := hKernel)
    ∧ quiescent_Kernel_pre_canonical (hKernel := hKernel) (hPre_canonical := hPre_canonical)
    ∧ quiescent_Reference (hReference := hReference)
    ∧ quiescent_Reference_pre_canonical (hReference := hReference) (hPre_canonical := hPre_canonical)
    ∧ bitexact_Kernel_Reference_pre_canonical (hKernel := hKernel) (hReference := hReference) (hPre_canonical := hPre_canonical)
-- ==== Pre_canonical.lean ====
abbrev S32x8192x128 : Shape := ⟨3, ![32, 8192, 128]⟩
abbrev S32x8192 : Shape := ⟨2, ![32, 8192]⟩
abbrev S_ : Shape := ⟨0, ![]⟩

class Facts : Prop where
  bcast_S_S32x8192 : S_.BroadcastsInDim S32x8192 (![] : Fin 0 → Fin S32x8192.rank)

variable [Facts]

def fn_where {F : FTy → Type} [BitOps F] (arg0 : IVec S32x8192 1) (arg1 : FVec F S_ .f32) (arg2 : FVec F S32x8192 .f32) : FVec F S32x8192 .f32 :=
  let v0 : FVec F S_ .f32 := id arg1
  let v1 : FVec F S32x8192 .f32 := broadcastInDim S32x8192 ![] bcast_S_S32x8192 v0
  let v2 : FVec F S32x8192 .f32 := select arg0 v1 arg2
  v2

def fn_where_0 {F : FTy → Type} [BitOps F] (arg0 : IVec S32x8192 1) (arg1 : FVec F S_ .f32) (arg2 : FVec F S32x8192 .f32) : FVec F S32x8192 .f32 :=
  let v0 : FVec F S_ .f32 := id arg1
  let v1 : FVec F S32x8192 .f32 := broadcastInDim S32x8192 ![] bcast_S_S32x8192 v0
  let v2 : FVec F S32x8192 .f32 := select arg0 v1 arg2
  v2

def fn {F : FTy → Type} [BitOps F] (main_arg0 : FVec F S32x8192x128 .f32) (main_arg1 : FVec F S32x8192 .f32) : IVec S32x8192 1 :=
  let main_cst : FVec F S_ .f32 := constant S_ .f32 0x00000000#32
  let main_v0 : FVec F S32x8192 .f32 := broadcastInDim S32x8192 ![] bcast_S_S32x8192 main_cst
  let main_v1 : IVec S32x8192 1 := cmpf .oeq main_arg1 main_v0
  let main_cst_0 : FVec F S_ .f32 := constant S_ .f32 0x00000000#32
  let main_v2 : FVec F S32x8192 .f32 := fn_where (F := F) main_v1 main_cst_0 main_arg1
  let main_v3 : IVec S32x8192 1 := cmpf .une main_arg1 main_arg1
  let main_cst_1 : FVec F S_ .f32 := constant S_ .f32 0x7FC00000#32
  let main_v4 : FVec F S32x8192 .f32 := fn_where_0 (F := F) main_v3 main_cst_1 main_v2
  let main_v5 : IVec S32x8192 32 := bitcastToInt main_v4
  let main_v6 : IVec S32x8192 32 := bitcastToInt main_arg1
  let main_v7 : IVec S32x8192 1 := cmpi .eq main_v5 main_v6
  main_v7
-- ==== Kernel.lean ====
abbrev S32x8192x128 : Shape := ⟨3, ![32, 8192, 128]⟩
abbrev S32x8192 : Shape := ⟨2, ![32, 8192]⟩
abbrev S262144x128 : Shape := ⟨2, ![262144, 128]⟩
abbrev S8192 : Shape := ⟨1, ![8192]⟩
abbrev S5120 : Shape := ⟨1, ![5120]⟩
abbrev S8x64x128 : Shape := ⟨3, ![8, 64, 128]⟩
abbrev S_ : Shape := ⟨0, ![]⟩
abbrev S1x8192 : Shape := ⟨2, ![1, 8192]⟩
abbrev S16 : Shape := ⟨1, ![16]⟩
abbrev S1x64x128 : Shape := ⟨3, ![1, 64, 128]⟩
abbrev S64x128 : Shape := ⟨2, ![64, 128]⟩
abbrev S64 : Shape := ⟨1, ![64]⟩

abbrev nBuf : Table → Nat
  | .hbm => 6
  | .local .scVector .vmem => 7
  | _ => 0

abbrev bufTy : (tb : Table) → Fin (nBuf tb) → BufTy
  | .hbm, ⟨0, _⟩ => ⟨S32x8192x128, .f32⟩
  | .hbm, ⟨1, _⟩ => ⟨S32x8192, .f32⟩
  | .hbm, ⟨2, _⟩ => ⟨S262144x128, .f32⟩
  | .hbm, ⟨3, _⟩ => ⟨S262144x128, .f32⟩
  | .hbm, ⟨4, _⟩ => ⟨S32x8192, .f32⟩
  | .hbm, ⟨5, _⟩ => ⟨S32x8192x128, .f32⟩
  | .local .scVector .vmem, ⟨0, _⟩ => ⟨S8192, .i32⟩
  | .local .scVector .vmem, ⟨1, _⟩ => ⟨S8192, .i32⟩
  | .local .scVector .vmem, ⟨2, _⟩ => ⟨S8192, .i32⟩
  | .local .scVector .vmem, ⟨3, _⟩ => ⟨S8192, .i32⟩
  | .local .scVector .vmem, ⟨4, _⟩ => ⟨S5120, .i32⟩
  | .local .scVector .vmem, ⟨5, _⟩ => ⟨S8192, .f32⟩
  | .local .scVector .vmem, ⟨6, _⟩ => ⟨S8x64x128, .f32⟩
  | _, _ => ⟨S32x8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v0_scv : Ref sig .scVector := ⟨.hbm, 2, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_140_r0 : BitVec 32 := 0#32
  ![v1.toNat, 0]
@[reducible] def k0_t1_loop : Scf.Loop 32 :=
  let c0_i32_0 : BitVec 32 := 0#32
  let c320_i32 : BitVec 32 := 320#32
  let v2 : BitVec 32 := Scalar.addi c0_i32_0 c320_i32
  let c1_i32 : BitVec 32 := 1#32
  ⟨c0_i32_0, v2, c1_i32⟩
def k0_off2 (k0_t1 : Fin k0_t1_loop.trips) : Fin 1 → Nat :=
  let c0_i32_0 : BitVec 32 := 0#32
  let c1_i32 : BitVec 32 := 1#32
  let arg21 : BitVec 32 := Scf.iv c0_i32_0 c1_i32 k0_t1
  let c16_i32 : BitVec 32 := 16#32
  let v101 : BitVec 32 := Scalar.muli arg21 c16_i32
  let v102 : Index := Scalar.indexCast v101
  ![v102.toNat]
@[reducible] def k0_t2_loop : Scf.Loop 32 :=
  let c0_i32_3 : BitVec 32 := 0#32
  let c512_i32 : BitVec 32 := 512#32
  let v4 : BitVec 32 := Scalar.addi c0_i32_3 c512_i32
  let c1_i32_4 : BitVec 32 := 1#32
  ⟨c0_i32_3, v4, c1_i32_4⟩
def k0_off3 (k0_t2 : Fin k0_t2_loop.trips) : Fin 1 → Nat :=
  let c0_i32_3 : BitVec 32 := 0#32
  let c1_i32_4 : BitVec 32 := 1#32
  let arg21 : BitVec 32 := Scf.iv c0_i32_3 c1_i32_4 k0_t2
  let c16_i32 : BitVec 32 := 16#32
  let v100 : BitVec 32 := Scalar.muli arg21 c16_i32
  let v101 : Index := Scalar.indexCast v100
  ![v101.toNat]

def k0_chk1 (v120 : IVec S16 32) : Prop :=
  (∀ a x, ((![v120] : Fin 1 → IVec S16 32) a x).toNat < S5120.size a)
theorem k0_idx1_inb : ∀ (v120 : IVec S16 32) (k0_hw1 : k0_chk1 v120), ∀ a x, ((![v120] : Fin 1 → IVec S16 32) a x).toNat < S5120.size a := fun v120 k0_hw1 => k0_hw1

def k0_chk2 (v128 : IVec S16 32) : Prop :=
  (∀ a x, ((![v128] : Fin 1 → IVec S16 32) a x).toNat < S5120.size a)
theorem k0_idx2_inb : ∀ (v128 : IVec S16 32) (k0_hw2 : k0_chk2 v128), ∀ a x, ((![v128] : Fin 1 → IVec S16 32) a x).toNat < S5120.size a := fun v128 k0_hw2 => k0_hw2

def k0_chk3 (v130 : IVec S16 32) : Prop :=
  (∀ a x, ((![v130] : Fin 1 → IVec S16 32) a x).toNat < S5120.size a)
theorem k0_idx3_inb : ∀ (v130 : IVec S16 32) (k0_hw3 : k0_chk3 v130), ∀ a x, ((![v130] : Fin 1 → IVec S16 32) a x).toNat < S5120.size a := fun v130 k0_hw3 => k0_hw3
@[reducible] def k0_t3_loop : Scf.Loop 32 :=
  let c0_i32_7 : BitVec 32 := 0#32
  let c128_i32 : BitVec 32 := 128#32
  let v6 : BitVec 32 := Scalar.addi c0_i32_7 c128_i32
  let c1_i32_8 : BitVec 32 := 1#32
  ⟨c0_i32_7, v6, c1_i32_8⟩
def k0_off4 (k0_t3 : Fin k0_t3_loop.trips) : Fin 1 → Nat :=
  let c0_i32_140 : BitVec 32 := 0#32
  let c0_i32_7 : BitVec 32 := 0#32
  let c1_i32_8 : BitVec 32 := 1#32
  let arg21 : BitVec 32 := Scf.iv c0_i32_7 c1_i32_8 k0_t3
  let c16_i32 : BitVec 32 := 16#32
  let v100 : BitVec 32 := Scalar.muli arg21 c16_i32
  let v101 : BitVec 32 := Scalar.addi c0_i32_140 v100
  let v102 : Index := Scalar.indexCast v101
  ![v102.toNat]
@[reducible] def k0_t4_loop : Scf.Loop 32 :=
  let c0_i32_11 : BitVec 32 := 0#32
  let c128_i32_12 : BitVec 32 := 128#32
  let v8 : BitVec 32 := Scalar.addi c0_i32_11 c128_i32_12
  let c1_i32_13 : BitVec 32 := 1#32
  ⟨c0_i32_11, v8, c1_i32_13⟩
def k0_off5 (k0_t4 : Fin k0_t4_loop.trips) : Fin 1 → Nat :=
  let c2048_i32 : BitVec 32 := 2048#32
  let c0_i32_11 : BitVec 32 := 0#32
  let c1_i32_13 : BitVec 32 := 1#32
  let arg21 : BitVec 32 := Scf.iv c0_i32_11 c1_i32_13 k0_t4
  let c16_i32 : BitVec 32 := 16#32
  let v100 : BitVec 32 := Scalar.muli arg21 c16_i32
  let v101 : BitVec 32 := Scalar.addi c2048_i32 v100
  let v102 : Index := Scalar.indexCast v101
  ![v102.toNat]
@[reducible] def k0_t5_loop : Scf.Loop 32 :=
  let c0_i32_16 : BitVec 32 := 0#32
  let c64_i32 : BitVec 32 := 64#32
  let v10 : BitVec 32 := Scalar.addi c0_i32_16 c64_i32
  let c1_i32_17 : BitVec 32 := 1#32
  ⟨c0_i32_16, v10, c1_i32_17⟩
def k0_off6 (k0_t5 : Fin k0_t5_loop.trips) : Fin 1 → Nat :=
  let c4096_i32 : BitVec 32 := 4096#32
  let c0_i32_16 : BitVec 32 := 0#32
  let c1_i32_17 : BitVec 32 := 1#32
  let arg21 : BitVec 32 := Scf.iv c0_i32_16 c1_i32_17 k0_t5
  let c16_i32 : BitVec 32 := 16#32
  let v100 : BitVec 32 := Scalar.muli arg21 c16_i32
  let v101 : BitVec 32 := Scalar.addi c4096_i32 v100
  let v102 : Index := Scalar.indexCast v101
  ![v102.toNat]
@[reducible] def k0_t6_loop : Scf.Loop 32 :=
  let c0_i32_20 : BitVec 32 := 0#32
  let c512_i32_21 : BitVec 32 := 512#32
  let v12 : BitVec 32 := Scalar.addi c0_i32_20 c512_i32_21
  let c1_i32_22 : BitVec 32 := 1#32
  ⟨c0_i32_20, v12, c1_i32_22⟩
def k0_off7 (k0_t6 : Fin k0_t6_loop.trips) : Fin 1 → Nat :=
  let c0_i32_20 : BitVec 32 := 0#32
  let c1_i32_22 : BitVec 32 := 1#32
  let arg21 : BitVec 32 := Scf.iv c0_i32_20 c1_i32_22 k0_t6
  let c16_i32 : BitVec 32 := 16#32
  let v100 : BitVec 32 := Scalar.muli arg21 c16_i32
  let v101 : Index := Scalar.indexCast v100
  ![v101.toNat]

def k0_chk5 (v112 : IVec S16 32) : Prop :=
  (∀ a x, ((![v112] : Fin 1 → IVec S16 32) a x).toNat < S8192.size a) ∧
  (∀ a x, ((![v112] : Fin 1 → IVec S16 32) a x).toNat < S8192.size a)
theorem k0_idx5_inb : ∀ (v112 : IVec S16 32) (k0_hw5 : k0_chk5 v112), ∀ a x, ((![v112] : Fin 1 → IVec S16 32) a x).toNat < S8192.size a := fun v112 k0_hw5 => k0_hw5.1
theorem k0_idx6_inb : ∀ (v112 : IVec S16 32) (k0_hw5 : k0_chk5 v112), ∀ a x, ((![v112] : Fin 1 → IVec S16 32) a x).toNat < S8192.size a := fun v112 k0_hw5 => k0_hw5.2

def k0_chk4 (v107 : IVec S16 32) : Prop :=
  (∀ a x, ((![v107] : Fin 1 → IVec S16 32) a x).toNat < S5120.size a) ∧
  (∀ a x, ((![v107] : Fin 1 → IVec S16 32) a x).toNat < S5120.size a)
theorem k0_idx4_inb : ∀ (v107 : IVec S16 32) (k0_hw4 : k0_chk4 v107), ∀ a x, ((![v107] : Fin 1 → IVec S16 32) a x).toNat < S5120.size a := fun v107 k0_hw4 => k0_hw4.1
theorem k0_idx7_inb : ∀ (v107 : IVec S16 32) (k0_hw4 : k0_chk4 v107), ∀ a x, ((![v107] : Fin 1 → IVec S16 32) a x).toNat < S5120.size a := fun v107 k0_hw4 => k0_hw4.2
@[reducible] def k0_t7_loop : Scf.Loop 32 :=
  let c0_i32_25 : BitVec 32 := 0#32
  let c512_i32_26 : BitVec 32 := 512#32
  let v14 : BitVec 32 := Scalar.addi c0_i32_25 c512_i32_26
  let c1_i32_27 : BitVec 32 := 1#32
  ⟨c0_i32_25, v14, c1_i32_27⟩
def k0_off8 (k0_t7 : Fin k0_t7_loop.trips) : Fin 1 → Nat :=
  let c0_i32_25 : BitVec 32 := 0#32
  let c1_i32_27 : BitVec 32 := 1#32
  let arg21 : BitVec 32 := Scf.iv c0_i32_25 c1_i32_27 k0_t7
  let c16_i32 : BitVec 32 := 16#32
  let v100 : BitVec 32 := Scalar.muli arg21 c16_i32
  let v101 : Index := Scalar.indexCast v100
  ![v101.toNat]

def k0_chk7 (v116 : IVec S16 32) : Prop :=
  (∀ a x, ((![v116] : Fin 1 → IVec S16 32) a x).toNat < S8192.size a) ∧
  (∀ a x, ((![v116] : Fin 1 → IVec S16 32) a x).toNat < S8192.size a)
theorem k0_idx9_inb : ∀ (v116 : IVec S16 32) (k0_hw7 : k0_chk7 v116), ∀ a x, ((![v116] : Fin 1 → IVec S16 32) a x).toNat < S8192.size a := fun v116 k0_hw7 => k0_hw7.1
theorem k0_idx10_inb : ∀ (v116 : IVec S16 32) (k0_hw7 : k0_chk7 v116), ∀ a x, ((![v116] : Fin 1 → IVec S16 32) a x).toNat < S8192.size a := fun v116 k0_hw7 => k0_hw7.2

def k0_chk6 (v111 : IVec S16 32) : Prop :=
  (∀ a x, ((![v111] : Fin 1 → IVec S16 32) a x).toNat < S5120.size a) ∧
  (∀ a x, ((![v111] : Fin 1 → IVec S16 32) a x).toNat < S5120.size a)
theorem k0_idx8_inb : ∀ (v111 : IVec S16 32) (k0_hw6 : k0_chk6 v111), ∀ a x, ((![v111] : Fin 1 → IVec S16 32) a x).toNat < S5120.size a := fun v111 k0_hw6 => k0_hw6.1
theorem k0_idx11_inb : ∀ (v111 : IVec S16 32) (k0_hw6 : k0_chk6 v111), ∀ a x, ((![v111] : Fin 1 → IVec S16 32) a x).toNat < S5120.size a := fun v111 k0_hw6 => k0_hw6.2
@[reducible] def k0_t8_loop : Scf.Loop 32 :=
  let c0_i32_30 : BitVec 32 := 0#32
  let c512_i32_31 : BitVec 32 := 512#32
  let v16 : BitVec 32 := Scalar.addi c0_i32_30 c512_i32_31
  let c1_i32_32 : BitVec 32 := 1#32
  ⟨c0_i32_30, v16, c1_i32_32⟩
def k0_off9 (k0_t8 : Fin k0_t8_loop.trips) : Fin 1 → Nat :=
  let c0_i32_30 : BitVec 32 := 0#32
  let c1_i32_32 : BitVec 32 := 1#32
  let arg21 : BitVec 32 := Scf.iv c0_i32_30 c1_i32_32 k0_t8
  let c16_i32 : BitVec 32 := 16#32
  let v100 : BitVec 32 := Scalar.muli arg21 c16_i32
  let v101 : Index := Scalar.indexCast v100
  ![v101.toNat]

def k0_chk9 (v114 : IVec S16 32) : Prop :=
  (∀ a x, ((![v114] : Fin 1 → IVec S16 32) a x).toNat < S8192.size a) ∧
  (∀ a x, ((![v114] : Fin 1 → IVec S16 32) a x).toNat < S8192.size a)
theorem k0_idx13_inb : ∀ (v114 : IVec S16 32) (k0_hw9 : k0_chk9 v114), ∀ a x, ((![v114] : Fin 1 → IVec S16 32) a x).toNat < S8192.size a := fun v114 k0_hw9 => k0_hw9.1
theorem k0_idx14_inb : ∀ (v114 : IVec S16 32) (k0_hw9 : k0_chk9 v114), ∀ a x, ((![v114] : Fin 1 → IVec S16 32) a x).toNat < S8192.size a := fun v114 k0_hw9 => k0_hw9.2

def k0_chk8 (v109 : IVec S16 32) : Prop :=
  (∀ a x, ((![v109] : Fin 1 → IVec S16 32) a x).toNat < S5120.size a) ∧
  (∀ a x, ((![v109] : Fin 1 → IVec S16 32) a x).toNat < S5120.size a)
theorem k0_idx12_inb : ∀ (v109 : IVec S16 32) (k0_hw8 : k0_chk8 v109), ∀ a x, ((![v109] : Fin 1 → IVec S16 32) a x).toNat < S5120.size a := fun v109 k0_hw8 => k0_hw8.1
theorem k0_idx15_inb : ∀ (v109 : IVec S16 32) (k0_hw8 : k0_chk8 v109), ∀ a x, ((![v109] : Fin 1 → IVec S16 32) a x).toNat < S5120.size a := fun v109 k0_hw8 => k0_hw8.2
@[reducible] def k0_t9_loop : Scf.Loop 32 :=
  let c0_i32_74 : BitVec 32 := 0#32
  let c15_i32 : BitVec 32 := 15#32
  let v50 : BitVec 32 := Scalar.addi c0_i32_74 c15_i32
  let c1_i32_75 : BitVec 32 := 1#32
  ⟨c0_i32_74, v50, c1_i32_75⟩
def k0_off10 (k0_t9 : Fin k0_t9_loop.trips) (c0_i32_140 : BitVec 32) : Fin 1 → Nat :=
  let c8_i32 : BitVec 32 := 8#32
  let c0_i32_74 : BitVec 32 := 0#32
  let c1_i32_75 : BitVec 32 := 1#32
  let arg21 : BitVec 32 := Scf.iv c0_i32_74 c1_i32_75 k0_t9
  let v100 : BitVec 32 := Scalar.muli c8_i32 arg21
  let v101 : BitVec 32 := Scalar.addi v100 c0_i32_140
  let c64_i32_141 : BitVec 32 := 64#32
  let v102 : BitVec 32 := Scalar.muli v101 c64_i32_141
  ![v102.toNat]
def k0_off11 (i : grid0.Coords) (k0_t9 : Fin k0_t9_loop.trips) (c0_i32_147 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_148 : BitVec 32 := 8192#32
  let v108 : BitVec 32 := Scalar.muli v1 c8192_i32_148
  let c8_i32 : BitVec 32 := 8#32
  let c0_i32_74 : BitVec 32 := 0#32
  let c1_i32_75 : BitVec 32 := 1#32
  let arg21 : BitVec 32 := Scf.iv c0_i32_74 c1_i32_75 k0_t9
  let v100 : BitVec 32 := Scalar.muli c8_i32 arg21
  let v107 : BitVec 32 := Scalar.addi v100 c0_i32_147
  let c64_i32_149 : BitVec 32 := 64#32
  let v109 : BitVec 32 := Scalar.muli v107 c64_i32_149
  let v110 : BitVec 32 := Scalar.addi v108 v109
  let c0_i32_295_r2 : BitVec 32 := 0#32
  ![v110.toNat, 0]
def k0_off12 (k0_t9 : Fin k0_t9_loop.trips) (c0_i32_151 : BitVec 32) : Fin 1 → Nat :=
  let c8_i32 : BitVec 32 := 8#32
  let c0_i32_74 : BitVec 32 := 0#32
  let c1_i32_75 : BitVec 32 := 1#32
  let arg21 : BitVec 32 := Scf.iv c0_i32_74 c1_i32_75 k0_t9
  let v100 : BitVec 32 := Scalar.muli c8_i32 arg21
  let v111 : BitVec 32 := Scalar.addi v100 c0_i32_151
  let c8_i32_152 : BitVec 32 := 8#32
  let v112 : BitVec 32 := Scalar.addi v111 c8_i32_152
  let c64_i32_153 : BitVec 32 := 64#32
  let v113 : BitVec 32 := Scalar.muli v112 c64_i32_153
  ![v113.toNat]
def k0_off13 (i : grid0.Coords) (c7680_i32_82 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v56 : BitVec 32 := Scalar.muli v1 c8192_i32
  let v57 : BitVec 32 := Scalar.addi v56 c7680_i32_82
  let c0_i32_142_r10 : BitVec 32 := 0#32
  ![v57.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S32x8192x128 : Shape := ⟨3, ![32, 8192, 128]⟩
abbrev S32x8192 : Shape := ⟨2, ![32, 8192]⟩
abbrev S32x8192x1 : Shape := ⟨3, ![32, 8192, 1]⟩
abbrev S_ : Shape := ⟨0, ![]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S32x8192, .f32⟩
  | .hbm, ⟨2, _⟩ => ⟨S32x8192, .f32⟩
  | .hbm, ⟨3, _⟩ => ⟨S32x8192, .i32⟩
  | .hbm, ⟨4, _⟩ => ⟨S32x8192, .f32⟩
  | .hbm, ⟨5, _⟩ => ⟨S32x8192, .i32⟩
  | .hbm, ⟨6, _⟩ => ⟨S32x8192x1, .i32⟩
  | .hbm, ⟨7, _⟩ => ⟨S_, .i32⟩
  | .hbm, ⟨8, _⟩ => ⟨S32x8192x1, .i32⟩
  | .hbm, ⟨9, _⟩ => ⟨S32x8192x1, .i1⟩
  | .hbm, ⟨10, _⟩ => ⟨S_, .i32⟩
  | .hbm, ⟨11, _⟩ => ⟨S32x8192x1, .i32⟩
  | .hbm, ⟨12, _⟩ => ⟨S32x8192x1, .i32⟩
  | .hbm, ⟨13, _⟩ => ⟨S32x8192x1, .i32⟩
  | .hbm, ⟨14, _⟩ => ⟨S1, .i32⟩
  | .hbm, ⟨15, _⟩ => ⟨S_, .i32⟩
  | .hbm, ⟨16, _⟩ => ⟨S32x8192x1, .i32⟩
  | .hbm, ⟨17, _⟩ => ⟨S32x8192x1, .i1⟩
  | .hbm, ⟨18, _⟩ => ⟨S1x1x1, .i32⟩
  | .hbm, ⟨19, _⟩ => ⟨S32x8192x1, .i32⟩
  | .hbm, ⟨20, _⟩ => ⟨S32x8192x1, .i1⟩
  | .hbm, ⟨21, _⟩ => ⟨S32x8192x1, .i1⟩
  | .hbm, ⟨22, _⟩ => ⟨S_, .i1⟩
  | .hbm, ⟨23, _⟩ => ⟨S32x8192, .i1⟩
  | .hbm, ⟨24, _⟩ => ⟨S32x8192x128, .f32⟩
  | .hbm, ⟨25, _⟩ => ⟨S32x8192x128, .i1⟩
  | .hbm, ⟨26, _⟩ => ⟨S_, .f32⟩
  | .hbm, ⟨27, _⟩ => ⟨S32x8192x128, .f32⟩
  | .hbm, ⟨28, _⟩ => ⟨S32x8192x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call1_v0 : Ref sig .tc := ⟨.hbm, 3, rfl⟩
abbrev main_call1_v1_0 : Ref sig .tc := ⟨.hbm, 4, rfl⟩
abbrev main_v1 : Ref sig .tc := ⟨.hbm, 5, rfl⟩
abbrev main_v2 : Ref sig .tc := ⟨.hbm, 6, rfl⟩
abbrev main_call2_c : Ref sig .tc := ⟨.hbm, 7, rfl⟩
abbrev main_call2_v0 : Ref sig .tc := ⟨.hbm, 8, rfl⟩
abbrev main_call2_v1 : Ref sig .tc := ⟨.hbm, 9, rfl⟩
abbrev main_call2_c_0 : Ref sig .tc := ⟨.hbm, 10, rfl⟩
abbrev main_call2_v2 : Ref sig .tc := ⟨.hbm, 11, rfl⟩
abbrev main_call2_v3 : Ref sig .tc := ⟨.hbm, 12, rfl⟩
abbrev main_call2_v4 : Ref sig .tc := ⟨.hbm, 13, rfl⟩
abbrev main_call2_c_1 : Ref sig .tc := ⟨.hbm, 14, rfl⟩
abbrev main_call2_c_2 : Ref sig .tc := ⟨.hbm, 15, rfl⟩
abbrev main_call2_v5 : Ref sig .tc := ⟨.hbm, 16, rfl⟩
abbrev main_call2_v6 : Ref sig .tc := ⟨.hbm, 17, rfl⟩
abbrev main_call2_v7 : Ref sig .tc := ⟨.hbm, 18, rfl⟩
abbrev main_call2_v8 : Ref sig .tc := ⟨.hbm, 19, rfl⟩
abbrev main_call2_v9 : Ref sig .tc := ⟨.hbm, 20, rfl⟩
abbrev main_call2_v10 : Ref sig .tc := ⟨.hbm, 21, rfl⟩
abbrev main_call2_c_3 : Ref sig .tc := ⟨.hbm, 22, rfl⟩
abbrev main_call2_v11 : Ref sig .tc := ⟨.hbm, 23, rfl⟩
abbrev main_call2_v12 : Ref sig .tc := ⟨.hbm, 24, rfl⟩
abbrev main_call2_v13 : Ref sig .tc := ⟨.hbm, 25, rfl⟩
abbrev main_call2_cst : Ref sig .tc := ⟨.hbm, 26, rfl⟩
abbrev main_call2_v14 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.Lanes.lean ====
/-
  What one vector of sixteen lanes does: the running sum (`scan`), the count of equal lanes (`scanCount`), and the
  indexed store with and without `add` (`storeIdx`) at the vectors the kernel gives them, each as a closed formula.
-/
module

public import proofs.«01_k».proof.Proof.Gen.Kernel.Skeleton
public import Mathlib.Algebra.BigOperators.Fin
public import Mathlib.Data.BitVec

@[expose] public section

noncomputable section

namespace Cert.Sort

open Idealize.ShloMosaic Cert.Kernel

/-- The position of a rank-one index. -/
abbrev pos {n : Nat} (x : (⟨1, ![n]⟩ : Shape).Idx) : ℕ := (x 0).val

theorem pos_lt {n : Nat} (x : (⟨1, ![n]⟩ : Shape).Idx) : pos x < n := (x 0).isLt

theorem pos_inj {n : Nat} {x y : (⟨1, ![n]⟩ : Shape).Idx} (h : pos x = pos y) : x = y := by
  funext a; obtain rfl := Fin.eq_zero a; exact Fin.ext h

/-- The index at a position. -/
def ix {n : Nat} (p : ℕ) (h : p < n) : (⟨1, ![n]⟩ : Shape).Idx := Shape.ofLane (d := ![n]) ⟨p, h⟩

@[simp] theorem pos_ix {n : Nat} (p : ℕ) (h : p < n) : pos (ix p h) = p := rfl
@[simp] theorem ix_pos {n : Nat} (x : (⟨1, ![n]⟩ : Shape).Idx) : ix (pos x) (pos_lt x) = x := pos_inj rfl
theorem pos_ofLane {n : Nat} (k : Fin n) : pos (Shape.ofLane (d := ![n]) k) = k.val := rfl

/-- The index of a lane. -/
def lane (k : Fin 16) : S16.Idx := Shape.ofLane (d := ![16]) k

@[simp] theorem pos_lane (k : Fin 16) : pos (lane k) = k.val := rfl
@[simp] theorem lane_pos (x : S16.Idx) : lane (x 0) = x := pos_inj rfl

theorem rowMajor_pos {n : Nat} (x : (⟨1, ![n]⟩ : Shape).Idx) : ((⟨1, ![n]⟩ : Shape).rowMajor x).val = pos x := by
  rw [Shape.rowMajor_val_one]

/-- A sum over the indices is a sum over the lanes. -/
theorem sum_lane {M : Type} [AddCommMonoid M] (f : S16.Idx → M) : ∑ x, f x = ∑ k : Fin 16, f (lane k) :=
  (Fintype.sum_bijective lane ⟨fun _ _ h => Fin.ext (congrArg pos h), fun x => ⟨x 0, lane_pos x⟩⟩ _ _ fun _ => rfl).symm

/-- A fold of conditional additions is one sum. -/
theorem foldl_add {α : Type} (l : List α) (f : α → BitVec 32) (r : BitVec 32) :
    l.foldl (fun r k => r + f k) r = r + (l.map f).sum := by
  induction l generalizing r with
  | nil => simp
  | cons a l ih => simp [ih, add_assoc]

theorem filter_map_sum {α : Type} (l : List α) (p : α → Prop) [DecidablePred p] (f : α → BitVec 32) :
    ((l.filter fun k => decide (p k)).map f).sum = (l.map fun k => if p k then f k else 0).sum := by
  induction l with
  | nil => rfl
  | cons a l ih => by_cases h : p a <;> simp [h, ih]

/-- The running sum, lane by lane. -/
theorem scan_sum (v : IVec S16 32) (x : S16.Idx) :
    scan (d := ![16]) .sum v x = ∑ k : Fin 16, if k.val ≤ pos x then v (lane k) else 0 := by
  have h1 : scan (d := ![16]) .sum v x
      = ((List.finRange 16).filter fun k => decide (0 < k.val ∧ k.val ≤ pos x)).foldl
          (fun r k => r + v (lane k)) (v (lane (0 : Fin 16))) := rfl
  rw [h1, foldl_add, filter_map_sum, ← Fin.sum_univ_def, Fin.sum_univ_succ, Fin.sum_univ_succ (n := 15)]
  simp

/-- A sum of words is the word of the sum. -/
theorem ofNat_sum {α : Type} (s : Finset α) (w : α → ℕ) : ∑ k ∈ s, BitVec.ofNat 32 (w k) = BitVec.ofNat 32 (∑ k ∈ s, w k) := by
  classical
  induction s using Finset.induction_on with
  | empty => rfl
  | insert a s h ih => rw [Finset.sum_insert h, Finset.sum_insert h, ih, ← BitVec.ofNat_add]

theorem scanCount_count (v : IVec S16 32) (x : S16.Idx) :
    (scanCount (fun _ => 1) v).2 x = BitVec.ofNat 32 (Finset.univ.filter fun j : S16.Idx => pos j ≤ pos x ∧ v j = v x).card := by
  simp [scanCount, Shape.rowMajor_val_one]

theorem scanCount_mask (v : IVec S16 32) (x : S16.Idx) :
    (scanCount (fun _ => 1) v).1 x = 1 ↔ ∀ j, pos x < pos j → v j ≠ v x := by
  simp only [scanCount, Shape.rowMajor_val_one]
  by_cases h : ∀ j, pos x < pos j → v j ≠ v x
  · rw [if_pos ⟨trivial, fun j hj hh => h j hj hh.2⟩]; simpa using h
  · rw [if_neg (fun hh => h fun j hj e => hh.2 j hj ⟨trivial, e⟩)]; simpa using h

/-- A fold whose every step adds to what is read at one place. -/
theorem foldl_at_add {α β : Type} (l : List α) (step : β → α → β) (rd : β → BitVec 32) (c : α → BitVec 32)
    (hs : ∀ g k, rd (step g k) = rd g + c k) (g : β) : rd (l.foldl step g) = rd g + (l.map c).sum := by
  induction l generalizing g with
  | nil => simp
  | cons a l ih => rw [List.foldl_cons, ih, hs, List.map_cons, List.sum_cons, add_assoc]

/-- A fold whose every step writes one place or leaves it, at most one step writing it. -/
theorem foldl_at_set {α β γ : Type} (l : List α) (step : β → α → β) (rd : β → γ) (c : α → γ) (hit : α → Prop)
    (hs : ∀ g k, hit k → rd (step g k) = c k) (hn : ∀ g k, ¬ hit k → rd (step g k) = rd g)
    (hu : ∀ j k, hit j → hit k → j = k) (g : β) :
    (∀ k ∈ l, hit k → rd (l.foldl step g) = c k) ∧ ((∀ k ∈ l, ¬ hit k) → rd (l.foldl step g) = rd g) := by
  induction l generalizing g with
  | nil => exact ⟨fun k hk => absurd hk List.not_mem_nil, fun _ => rfl⟩
  | cons a l ih =>
    refine ⟨fun k hk hh => ?_, fun hne => ?_⟩
    · rw [List.foldl_cons]
      by_cases hl : k ∈ l
      · exact (ih _).1 k hl hh
      · obtain rfl : k = a := by simpa [hl] using hk
        rw [(ih _).2 fun j hj hj' => hl (hu _ _ hj' hh ▸ hj), hs _ _ hh]
    · rw [List.foldl_cons, (ih _).2 fun k hk => hne k (List.mem_cons_of_mem _ hk), hn _ _ (hne a List.mem_cons_self)]

section Store

variable {F : FTy → Type} [FloatOps F] {n : ℕ}

/-- One lane's step of an indexed store. -/
def stStep {e : EltTy} (t : IVec S16 32) (v : Vec F S16 e) (mask : IVec S16 1) (add : Bool)
    (h : ∀ a x, ((![t] : Fin 1 → IVec S16 32) a x).toNat < (⟨1, ![n]⟩ : Shape).size a)
    (g : Vec F ⟨1, ![n]⟩ e) (k : Fin 16) : Vec F ⟨1, ![n]⟩ e :=
  let x : S16.Idx := lane k
  if mask x = 1 then
    let i := idxAt ![t] h x
    let y := if add then Elt.idxAdd e (g i) (v x) else v x
    fun j => if (∀ a, (j a).val = (i a).val) then y else g j
  else g

theorem storeIdx_eq {e : EltTy} (f : Vec F ⟨1, ![n]⟩ e) (t : IVec S16 32) (v : Vec F S16 e) (mask : IVec S16 1) (add : Bool)
    (h : ∀ a x, ((![t] : Fin 1 → IVec S16 32) a x).toNat < (⟨1, ![n]⟩ : Shape).size a) :
    storeIdx (d := ![16]) f ![t] v mask add h = (List.finRange 16).foldl (stStep t v mask add h) f := by
  unfold storeIdx stStep lane
  refine congrFun (congrFun (congrArg (fun st : Vec F ⟨1, ![n]⟩ e → Fin 16 → Vec F ⟨1, ![n]⟩ e => List.foldl st)
    (funext fun g => funext fun k => ?_)) f) (List.finRange 16)
  dsimp only
  split
  · funext j
    congr
  · rfl

theorem hits_iff (t : IVec S16 32) (h : ∀ a x, ((![t] : Fin 1 → IVec S16 32) a x).toNat < (⟨1, ![n]⟩ : Shape).size a)
    (x : S16.Idx) (i : (⟨1, ![n]⟩ : Shape).Idx) :
    (∀ a, (i a).val = (idxAt (s := ⟨1, ![n]⟩) ![t] h x a).val) ↔ (t x).toNat = pos i :=
  ⟨fun hh => (hh 0).symm, fun hh a => by obtain rfl := Fin.eq_zero a; exact hh.symm⟩

/-- The indexed store that adds: each element takes the sum of the set lanes that name it. -/
theorem storeIdx_add (f : Vec F ⟨1, ![n]⟩ .i32) (t : IVec S16 32) (v : IVec S16 32) (mask : IVec S16 1)
    (h : ∀ a x, ((![t] : Fin 1 → IVec S16 32) a x).toNat < (⟨1, ![n]⟩ : Shape).size a) (i : (⟨1, ![n]⟩ : Shape).Idx) :
    storeIdx (d := ![16]) (e := .i32) f ![t] v mask true h i
      = (f i : BitVec 32) + ∑ x : S16.Idx, if mask x = 1 ∧ (t x).toNat = pos i then v x else 0 := by
  rw [sum_lane, Fin.sum_univ_def, storeIdx_eq]
  refine foldl_at_add (List.finRange 16) (stStep (e := .i32) t v mask true h) (fun g => g i)
    (fun k => if mask (lane k) = 1 ∧ (t (lane k)).toNat = pos i
          then v (lane k) else 0) (fun g k => ?_) f
  dsimp only [stStep]
  by_cases hm : mask (lane k) = 1
  · by_cases hi : (t (lane k)).toNat = pos i
    · have e : idxAt (s := ⟨1, ![n]⟩) ![t] h (lane k) = i := pos_inj hi
      rw [if_pos hm, if_pos ((hits_iff t h _ i).2 hi), e, if_pos (show mask (lane k) = 1 ∧ (t (lane k)).toNat = pos i from ⟨hm, hi⟩)]
      exact Elt.idxAdd_i32 _ _
    · rw [if_pos hm, if_neg (fun hh => hi ((hits_iff t h _ i).1 hh)), if_neg (fun hh => hi hh.2)]
      exact (add_zero (g i : BitVec 32)).symm
  · rw [if_neg hm, if_neg (fun hh => hm hh.1)]
    exact (add_zero (g i : BitVec 32)).symm

/-- The indexed store of every lane at pairwise distinct places. -/
theorem storeIdx_set {e : EltTy} (f : Vec F ⟨1, ![n]⟩ e) (t : IVec S16 32) (v : Vec F S16 e)
    (h : ∀ a x, ((![t] : Fin 1 → IVec S16 32) a x).toNat < (⟨1, ![n]⟩ : Shape).size a) (i : (⟨1, ![n]⟩ : Shape).Idx)
    (hinj : ∀ x y, (t x).toNat = (t y).toNat → x = y) :
    (∀ x, (t x).toNat = pos i → storeIdx (d := ![16]) f ![t] v (fun _ => 1) false h i = v x)
      ∧ ((∀ x, (t x).toNat ≠ pos i) → storeIdx (d := ![16]) f ![t] v (fun _ => 1) false h i = f i) := by
  have key := foldl_at_set (List.finRange 16) (stStep t v (fun _ => 1) false h) (fun g => g i)
    (fun k => v (lane k)) (fun k => (t (lane k)).toNat = pos i)
    (fun g k hk => by dsimp only [stStep]; rw [if_pos rfl, if_pos ((hits_iff t h _ i).2 hk)]; rfl)
    (fun g k hk => by dsimp only [stStep]; rw [if_pos rfl, if_neg (fun hh => hk ((hits_iff t h _ i).1 hh))])
    (fun j k hj hk => Fin.ext (congrArg pos (hinj _ _ (hj.trans hk.symm)))) f
  rw [storeIdx_eq]
  refine ⟨fun x hx => ?_, fun hne => key.2 fun k _ => hne _⟩
  have hx' : lane (x 0) = x := lane_pos x
  have := key.1 (x 0) (List.mem_finRange _) (by rw [hx']; exact hx)
  rw [hx'] at this
  exact this

end Store

/-- Adding each distinct value's total count at its last lane adds, to every element, the number of lanes naming it. -/
theorem sum_lastCount (t : IVec S16 32) (i : ℕ) :
    (∑ x : S16.Idx, if (scanCount (fun _ => 1) t).1 x = 1 ∧ (t x).toNat = i then (scanCount (fun _ => 1) t).2 x else 0)
      = BitVec.ofNat 32 (Finset.univ.filter fun x : S16.Idx => (t x).toNat = i).card := by
  by_cases hne : (Finset.univ.filter fun x : S16.Idx => (t x).toNat = i).Nonempty
  · obtain ⟨x, hx, hmax⟩ := Finset.exists_max_image _ (fun x : S16.Idx => pos x) hne
    simp only [Finset.mem_filter, Finset.mem_univ, true_and] at hx hmax
    rw [Finset.sum_eq_single x]
    · rw [if_pos ⟨(scanCount_mask t x).2 fun j hj e => absurd (hmax j (by rw [e, hx])) (by omega), hx⟩, scanCount_count]
      congr 2
      ext j
      simp only [Finset.mem_filter, Finset.mem_univ, true_and]
      constructor
      · rintro ⟨-, e⟩; rw [e, hx]
      · intro e; exact ⟨hmax j e, BitVec.eq_of_toNat_eq (e.trans hx.symm)⟩
    · intro y _ hy
      rw [if_neg]
      rintro ⟨hm, hi⟩
      rw [scanCount_mask] at hm
      have h1 := hmax y hi
      have h2 : pos y ≠ pos x := fun e => hy (pos_inj e)
      exact hm x (by omega) (BitVec.eq_of_toNat_eq (hx.trans hi.symm))
    · intro hn; exact absurd (Finset.mem_univ _) hn
  · rw [Finset.not_nonempty_iff_eq_empty] at hne
    rw [hne, Finset.sum_eq_zero]
    · rfl
    · intro x _
      rw [if_neg]
      rintro ⟨-, hi⟩
      exact absurd (hne ▸ Finset.mem_filter.2 ⟨Finset.mem_univ x, hi⟩ : x ∈ (∅ : Finset S16.Idx)) (by simp)

end Cert.Sort

end
-- ==== Proof.Radix.lean ====
/-
  The counting behind a stable counting sort of 8192 positions by a digit: the histogram, its running sums, the place
  `dest` each position goes to, and one step of sixteen positions of each of the kernel's loops on the contents of its
  buffers.
-/
module

public import proofs.«01_k».proof.Proof.Lanes

@[expose] public section

noncomputable section

namespace Cert.Sort

open Idealize.ShloMosaic Cert.Kernel Finset

/-! ## Ranks in a strict order -/

/-- How many positions below `n` come before `p`. -/
def rk (lt : ℕ → ℕ → Prop) (n p : ℕ) : ℕ := by
  classical exact ((range n).filter fun q => lt q p).card

/-- A strict total order on the positions below `n`. -/
structure Lin (lt : ℕ → ℕ → Prop) (n : ℕ) : Prop where
  irr : ∀ p, ¬ lt p p
  tr : ∀ p q r, lt p q → lt q r → lt p r
  tot : ∀ p q, p < n → q < n → p ≠ q → lt p q ∨ lt q p

section Rank
variable {lt : ℕ → ℕ → Prop} {n : ℕ} (hl : Lin lt n)
include hl

theorem rk_lt_of {p q : ℕ} (hp : p < n) (h : lt p q) : rk lt n p < rk lt n q := by
  classical
  unfold rk
  refine card_lt_card (ssubset_iff_of_subset ?_ |>.2 ⟨p, ?_, ?_⟩)
  · intro r hr
    simp only [mem_filter] at hr ⊢
    exact ⟨hr.1, hl.tr _ _ _ hr.2 h⟩
  · simp [hp, h]
  · simp [hl.irr]

theorem rk_inj {p q : ℕ} (hp : p < n) (hq : q < n) (h : rk lt n p = rk lt n q) : p = q := by
  by_contra hne
  rcases hl.tot p q hp hq hne with h1 | h1
  · exact absurd (rk_lt_of hl hp h1) (by omega)
  · exact absurd (rk_lt_of hl hq h1) (by omega)

theorem rk_lt_iff {p q : ℕ} (hp : p < n) (hq : q < n) : rk lt n p < rk lt n q ↔ lt p q := by
  refine ⟨fun h => ?_, rk_lt_of hl hp⟩
  have hne : p ≠ q := fun e => by subst e; exact lt_irrefl _ h
  rcases hl.tot p q hp hq hne with h1 | h1
  · exact h1
  · exact absurd (rk_lt_of hl hq h1) (by omega)

theorem rk_lt {p : ℕ} (hp : p < n) : rk lt n p < n := by
  classical
  unfold rk
  calc _ < (range n).card := card_lt_card (ssubset_iff_of_subset (filter_subset _ _) |>.2 ⟨p, by simp [hp], by simp [hl.irr]⟩)
    _ = n := card_range n

theorem rk_surj {i : ℕ} (hi : i < n) : ∃ p, p < n ∧ rk lt n p = i := by
  have := Finset.surj_on_of_inj_on_of_card_le (s := range n) (t := range n) (fun p _ => rk lt n p)
    (fun p hp => mem_range.2 (rk_lt hl (mem_range.1 hp)))
    (fun p q hp hq h => rk_inj hl (mem_range.1 hp) (mem_range.1 hq) h) le_rfl i (mem_range.2 hi)
  obtain ⟨p, hp, h⟩ := this
  exact ⟨p, mem_range.1 hp, h.symm⟩

end Rank

/-- Counting over the positions is counting over where a rearrangement sends them. -/
theorem card_reindex {r : ℕ → ℕ} {n : ℕ} (hr : ∀ p, p < n → r p < n) (hi : ∀ p q, p < n → q < n → r p = r q → p = q)
    (P : ℕ → Prop) [DecidablePred P] [DecidablePred fun p => P (r p)] :
    ((range n).filter fun q => P q).card = ((range n).filter fun p => P (r p)).card := by
  symm
  refine card_bij (fun p _ => r p) ?_ ?_ ?_
  · intro p hp
    simp only [mem_filter, mem_range] at hp ⊢
    exact ⟨hr p hp.1, hp.2⟩
  · intro p hp q hq h
    simp only [mem_filter, mem_range] at hp hq
    exact hi p q hp.1 hq.1 h
  · intro q hq
    simp only [mem_filter, mem_range] at hq
    obtain ⟨p, hp, h⟩ := Finset.surj_on_of_inj_on_of_card_le (s := range n) (t := range n) (fun p _ => r p)
      (fun p hp => mem_range.2 (hr p (mem_range.1 hp)))
      (fun p q hp hq h => hi p q (mem_range.1 hp) (mem_range.1 hq) h) le_rfl q (mem_range.2 hq.1)
    refine ⟨p, ?_, h.symm⟩
    simp only [mem_filter, mem_range]
    have h' : q = r p := h
    exact ⟨mem_range.1 hp, h' ▸ hq.2⟩

/-! ## Histograms -/

/-- How many of the first `n` positions have digit `d`. -/
def cnt (E : ℕ → ℕ) (n d : ℕ) : ℕ := ((range n).filter fun p => E p = d).card
/-- How many of the 8192 positions have a digit below `d`. -/
def below (E : ℕ → ℕ) (d : ℕ) : ℕ := ((range 8192).filter fun p => E p < d).card
/-- The stable order by the digit. -/
def dlt (E : ℕ → ℕ) (q p : ℕ) : Prop := E q < E p ∨ (E q = E p ∧ q < p)
/-- Where the position `p` goes. -/
abbrev dest (E : ℕ → ℕ) (p : ℕ) : ℕ := rk (dlt E) 8192 p

theorem dlt_lin (E : ℕ → ℕ) : Lin (dlt E) 8192 where
  irr p h := by unfold dlt at h; omega
  tr p q r h1 h2 := by unfold dlt at *; omega
  tot p q _ _ h := by unfold dlt; omega

theorem cnt_zero (E : ℕ → ℕ) (d : ℕ) : cnt E 0 d = 0 := rfl

theorem cnt_add (E : ℕ → ℕ) (n m d : ℕ) : cnt E (n + m) d = cnt E n d + ((range m).filter fun l => E (n + l) = d).card := by
  unfold cnt
  rw [range_eq_Ico, ← Finset.Ico_union_Ico_eq_Ico (Nat.zero_le n) (Nat.le_add_right n m), filter_union, card_union_of_disjoint, range_eq_Ico]
  · congr 1
    symm
    refine card_bij (fun l _ => n + l) ?_ ?_ ?_
    · intro l hl; simp only [mem_filter, mem_Ico, mem_range] at hl ⊢; omega
    · intro a _ b _ h; omega
    · intro q hq
      simp only [mem_filter, mem_Ico] at hq
      refine ⟨q - n, ?_, by omega⟩
      simp only [mem_filter, mem_range]
      rw [Nat.add_sub_cancel' hq.1.1]
      exact ⟨by omega, hq.2⟩
  · exact disjoint_filter_filter (Finset.Ico_disjoint_Ico_consecutive 0 n (n + m))

/-- Lanes counted as positions. -/
theorem card_lanes (P : ℕ → Prop) [DecidablePred P] (l : ℕ) (hl : l ≤ 16) :
    (univ.filter fun x : S16.Idx => pos x < l ∧ P (pos x)).card = ((range l).filter P).card := by
  refine card_bij (fun x _ => pos x) ?_ ?_ ?_
  · intro x hx; simpa using hx
  · intro x _ y _ h; exact pos_inj h
  · intro q hq
    simp only [mem_filter, mem_range] at hq
    exact ⟨ix q (by omega), by simpa using hq, rfl⟩

theorem cnt_trip (E : ℕ → ℕ) (k d : ℕ) :
    cnt E (16 * (k + 1)) d = cnt E (16 * k) d + (univ.filter fun x : S16.Idx => E (16 * k + pos x) = d).card := by
  rw [show 16 * (k + 1) = 16 * k + 16 by omega, cnt_add, ← card_lanes _ 16 le_rfl]
  congr 3
  ext x
  have := pos_lt x
  simp [this]

theorem dest_eq (E : ℕ → ℕ) {p : ℕ} (hp : p < 8192) : dest E p = below E (E p) + cnt E p (E p) := by
  classical
  unfold dest rk below cnt dlt
  rw [← card_union_of_disjoint]
  · refine congrArg card ?_
    ext q
    simp only [mem_filter, mem_range, mem_union]
    omega
  · rw [disjoint_left]; intro q h h'; simp only [mem_filter] at h h'; omega

theorem sum_cnt (E : ℕ → ℕ) (o i : ℕ) : ∑ j ∈ Ico o i, cnt E 8192 j = ((range 8192).filter fun p => o ≤ E p ∧ E p < i).card := by
  unfold cnt
  rw [← card_biUnion]
  · congr 1
    ext p
    simp only [mem_biUnion, mem_Ico, mem_filter]
    constructor
    · rintro ⟨j, hj, hp, rfl⟩; exact ⟨hp, hj⟩
    · rintro ⟨hp, hj⟩; exact ⟨_, hj, hp, rfl⟩
  · intro a _ b _ hab
    exact disjoint_filter.2 fun p _ h1 h2 => hab (h1.symm.trans h2)

/-! ## One step of each loop -/

section Step
variable {F : FTy → Type} [FloatOps F]

/-- The contents of an integer buffer are the words of `T`. -/
def Holds {n : ℕ} (f : Vec F ⟨1, ![n]⟩ .i32) (T : ℕ → ℕ) : Prop := ∀ i, f i = BitVec.ofNat 32 (T (pos i))

/-- The sixteen digits of trip `k`. -/
def Digs (E : ℕ → ℕ) (k : ℕ) (t : IVec S16 32) : Prop := ∀ x, (t x).toNat = E (16 * k + pos x)

theorem hist_step {n : ℕ} {E : ℕ → ℕ} {k : ℕ} {t : IVec S16 32} {T : ℕ → ℕ} {f : Vec F ⟨1, ![n]⟩ .i32}
    (ht : Digs E k t) (hf : Holds f fun i => T i + cnt E (16 * k) i)
    (h : ∀ a x, ((![t] : Fin 1 → IVec S16 32) a x).toNat < (⟨1, ![n]⟩ : Shape).size a) :
    Holds (storeIdx (d := ![16]) (e := .i32) f ![t] (scanCount (fun _ => 1) t).2 (scanCount (fun _ => 1) t).1 true h)
      fun i => T i + cnt E (16 * (k + 1)) i := by
  intro i
  rw [storeIdx_add, hf i]
  show _ = BitVec.ofNat 32 (T (pos i) + cnt E (16 * (k + 1)) (pos i))
  rw [sum_lastCount, ← BitVec.ofNat_add, cnt_trip, add_assoc]
  congr 4
  ext x
  have hx : (t x).toNat = E (16 * k + pos x) := ht x
  simp only [mem_filter, hx]

/-- The place computed for each lane. -/
theorem place {n : ℕ} {E : ℕ → ℕ} {k : ℕ} {t : IVec S16 32} {T : ℕ → ℕ} {f : Vec F ⟨1, ![n]⟩ .i32}
    (ht : Digs E k t) (hf : Holds f fun i => T i + cnt E (16 * k) i) (hk : k < 512)
    (hT : ∀ p, p < 8192 → T (E p) = below E (E p))
    (h : ∀ a x, ((![t] : Fin 1 → IVec S16 32) a x).toNat < (⟨1, ![n]⟩ : Shape).size a) (x : S16.Idx) :
    ((loadIdx (e := .i32) f ![t] h x : BitVec 32) + (scanCount (fun _ => 1) t).2 x - 1#32).toNat = dest E (16 * k + pos x) := by
  have hx := pos_lt x
  have hp : 16 * k + pos x < 8192 := by omega
  have h1 : (loadIdx (e := .i32) f ![t] h x : BitVec 32) = BitVec.ofNat 32 (T (E (16 * k + pos x)) + cnt E (16 * k) (E (16 * k + pos x))) := by
    have := hf (idxAt (s := ⟨1, ![n]⟩) ![t] h x)
    have e : pos (idxAt (s := ⟨1, ![n]⟩) ![t] h x) = E (16 * k + pos x) := ht x
    rw [e] at this
    exact this
  have h2 : (univ.filter fun j : S16.Idx => pos j ≤ pos x ∧ t j = t x).card
      = ((range (pos x)).filter fun l => E (16 * k + l) = E (16 * k + pos x)).card + 1 := by
    have e1 : (univ.filter fun j : S16.Idx => pos j ≤ pos x ∧ t j = t x)
        = univ.filter fun j : S16.Idx => pos j < pos x + 1 ∧ E (16 * k + pos j) = E (16 * k + pos x) := by
      ext j
      simp only [mem_filter, mem_univ, true_and]
      rw [← ht j, ← ht x, BitVec.toNat_inj, Nat.lt_succ_iff]
    rw [e1, card_lanes (fun l => E (16 * k + l) = E (16 * k + pos x)) _ (by omega), range_add_one, filter_insert, if_pos rfl,
      card_insert_of_notMem (by simp)]
  rw [h1, scanCount_count, h2, hT _ hp, ← BitVec.ofNat_add, ← add_assoc, BitVec.ofNat_add, BitVec.add_sub_cancel, BitVec.toNat_ofNat,
    add_assoc, ← cnt_add, ← dest_eq E hp]
  exact Nat.mod_eq_of_lt (lt_trans (rk_lt (dlt_lin E) hp) (by decide))

/-- The first `n` positions of `src` stand at their places in `dst`. -/
def Moved {e : EltTy} (E : ℕ → ℕ) (src dst : Vec F S8192 e) (n : ℕ) : Prop :=
  ∀ x y : S8192.Idx, pos x < n → pos y = dest E (pos x) → dst y = src x

theorem moved_step {e : EltTy} {E : ℕ → ℕ} {src dst : Vec F S8192 e} {k : ℕ} (hk : k < 512) (hm : Moved E src dst (16 * k))
    {t : IVec S16 32} (v : Vec F S16 e) (ht : ∀ x, (t x).toNat = dest E (16 * k + pos x))
    (hv : ∀ (x : S16.Idx) (y : S8192.Idx), pos y = 16 * k + pos x → v x = src y)
    (h : ∀ a x, ((![t] : Fin 1 → IVec S16 32) a x).toNat < S8192.size a) :
    Moved E src (storeIdx (d := ![16]) dst ![t] v (fun _ => 1) false h) (16 * (k + 1)) := by
  intro x y hx hy
  have hxl := pos_lt x
  have key := storeIdx_set dst t v h y fun a b hab => by
    rw [ht, ht] at hab
    have ha := pos_lt a
    have hb := pos_lt b
    exact pos_inj (by have := rk_inj (dlt_lin E) (by omega) (by omega) hab; omega)
  by_cases hlt : pos x < 16 * k
  · rw [key.2, hm x y hlt hy]
    intro z hz
    rw [ht, hy] at hz
    have hz' := pos_lt z
    have := rk_inj (dlt_lin E) (by omega) (by omega) hz
    omega
  · have hz : pos x - 16 * k < 16 := by omega
    rw [key.1 (ix (pos x - 16 * k) hz) (by rw [ht, pos_ix, hy]; congr 1; omega)]
    exact hv _ _ (by rw [pos_ix]; omega)

theorem moved_zero {e : EltTy} (E : ℕ → ℕ) (src dst : Vec F S8192 e) : Moved E src dst 0 := fun _ _ h => absurd h (by omega)

end Step

end Cert.Sort

end
-- ==== Proof.Passes.lean ====
/-
  The three digit passes composed: what the words of a key's digits are, how a pass turns an arrangement ranked by one
  order into one ranked by the next, and that three passes rank by the whole key with ties in the original order.
-/
module

public import proofs.«01_k».proof.Proof.Radix
public import Mathlib.Algebra.BigOperators.Intervals

@[expose] public section

noncomputable section

namespace Cert.Sort

open Idealize.ShloMosaic Cert.Kernel Cert.Kernel.Gen Finset

/-! ## Digits of a key -/

def dg1 (w : BitVec 32) : ℕ := w.toNat % 2048
def dg2 (w : BitVec 32) : ℕ := w.toNat / 2048 % 2048 + 2048
def dg3 (w : BitVec 32) : ℕ := w.toNat / 4194304 + 4096

theorem dg1_lt (w : BitVec 32) : dg1 w < 2048 := Nat.mod_lt _ (by decide)
theorem dg2_lt (w : BitVec 32) : 2048 ≤ dg2 w ∧ dg2 w < 4096 := by
  have := Nat.mod_lt (w.toNat / 2048) (show 0 < 2048 by decide)
  unfold dg2; omega
theorem dg3_lt (w : BitVec 32) : 4096 ≤ dg3 w ∧ dg3 w < 5120 := by
  have := w.isLt
  unfold dg3; omega

theorem dg1_word (w : BitVec 32) : (w &&& 2047#32).toNat = dg1 w := by
  rw [BitVec.toNat_and]
  exact Nat.and_two_pow_sub_one_eq_mod w.toNat 11

theorem dg2_word (w : BitVec 32) : (((w >>> 11) &&& 2047#32) + 2048#32).toNat = dg2 w := by
  have h : ((w >>> 11) &&& 2047#32).toNat = w.toNat / 2048 % 2048 := by
    rw [BitVec.toNat_and, BitVec.toNat_ushiftRight, Nat.shiftRight_eq_div_pow]
    exact Nat.and_two_pow_sub_one_eq_mod _ 11
  have := Nat.mod_lt (w.toNat / 2048) (show 0 < 2048 by decide)
  rw [BitVec.toNat_add, h]
  simp only [BitVec.toNat_ofNat]
  unfold dg2
  omega

theorem dg3_word (w : BitVec 32) : ((w >>> 22) + 4096#32).toNat = dg3 w := by
  have h : (w >>> 22).toNat = w.toNat / 4194304 := by
    rw [BitVec.toNat_ushiftRight, Nat.shiftRight_eq_div_pow]
  have := w.isLt
  rw [BitVec.toNat_add, h]
  simp only [BitVec.toNat_ofNat]
  unfold dg3
  omega

/-! ## Orders -/

/-- First by `E`, then by `lt`. -/
def lex (E : ℕ → ℕ) (lt : ℕ → ℕ → Prop) (q p : ℕ) : Prop := E q < E p ∨ (E q = E p ∧ lt q p)

theorem lex_lin (E : ℕ → ℕ) {lt : ℕ → ℕ → Prop} (h : Lin lt 8192) : Lin (lex E lt) 8192 where
  irr p hp := by
    rcases hp with hp | hp
    · exact absurd hp (lt_irrefl _)
    · exact h.irr _ hp.2
  tr p q r h1 h2 := by
    rcases h1 with h1 | ⟨h1, l1⟩ <;> rcases h2 with h2 | ⟨h2, l2⟩
    · exact .inl (h1.trans h2)
    · exact .inl (h2 ▸ h1)
    · exact .inl (h1 ▸ h2)
    · exact .inr ⟨h1.trans h2, h.tr _ _ _ l1 l2⟩
  tot p q hp hq hne := by
    rcases lt_trichotomy (E p) (E q) with h1 | h1 | h1
    · exact .inl (.inl h1)
    · rcases h.tot p q hp hq hne with h2 | h2
      · exact .inl (.inr ⟨h1, h2⟩)
      · exact .inr (.inr ⟨h1.symm, h2⟩)
    · exact .inr (.inl h1)

def lt0 (q p : ℕ) : Prop := q < p

theorem lt0_lin : Lin lt0 8192 := ⟨fun _ h => lt_irrefl _ h, fun _ _ _ => lt_trans, fun _ _ _ _ h => lt_or_gt_of_ne h⟩

theorem rk_lt0 {p : ℕ} (hp : p < 8192) : rk lt0 8192 p = p := by
  classical
  unfold rk
  have : ((range 8192).filter fun q => lt0 q p) = range p := by
    ext q
    rw [mem_filter, mem_range, mem_range]
    exact ⟨fun h => h.2, fun h => ⟨lt_trans h hp, h⟩⟩
  rw [this, card_range]

/-- By the whole key, ties by position. -/
def klt (K : ℕ → BitVec 32) (q p : ℕ) : Prop := (K q).toNat < (K p).toNat ∨ ((K q).toNat = (K p).toNat ∧ q < p)

/-- The orders after each pass. -/
def lt1 (K : ℕ → BitVec 32) : ℕ → ℕ → Prop := lex (fun p => dg1 (K p)) lt0
def lt2 (K : ℕ → BitVec 32) : ℕ → ℕ → Prop := lex (fun p => dg2 (K p)) (lt1 K)
def lt3 (K : ℕ → BitVec 32) : ℕ → ℕ → Prop := lex (fun p => dg3 (K p)) (lt2 K)

theorem lt1_lin (K : ℕ → BitVec 32) : Lin (lt1 K) 8192 := lex_lin _ lt0_lin
theorem lt2_lin (K : ℕ → BitVec 32) : Lin (lt2 K) 8192 := lex_lin _ (lt1_lin K)
theorem lt3_lin (K : ℕ → BitVec 32) : Lin (lt3 K) 8192 := lex_lin _ (lt2_lin K)

theorem lt3_iff (K : ℕ → BitVec 32) (q p : ℕ) : lt3 K q p ↔ klt K q p := by
  unfold lt3 lt2 lt1 klt lex dg1 dg2 dg3 lt0
  dsimp only
  omega

/-! ## An arrangement and a pass over it -/

section Pass
variable {F : FTy → Type} [FloatOps F]

/-- The digits of the buffer, by position. -/
def dgOf (dg : BitVec 32 → ℕ) (key : Vec F S8192 .i32) (q : ℕ) : ℕ := if h : q < 8192 then dg (key (ix q h)) else 0

theorem dgOf_pos (dg : BitVec 32 → ℕ) (key : Vec F S8192 .i32) (x : S8192.Idx) : dgOf dg key (pos x) = dg (key x) := by
  unfold dgOf
  rw [dif_pos (pos_lt x), ix_pos]

/-- The keys and their positions stand in the order `lt`. -/
def Placed (lt : ℕ → ℕ → Prop) (K : ℕ → BitVec 32) (key idx : Vec F S8192 .i32) : Prop :=
  ∀ p (x : S8192.Idx), p < 8192 → pos x = rk lt 8192 p → key x = K p ∧ idx x = BitVec.ofNat 32 p

theorem placed_zero {K : ℕ → BitVec 32} {key idx : Vec F S8192 .i32} (hk : ∀ x, key x = K (pos x))
    (hi : ∀ x, idx x = BitVec.ofNat 32 (pos x)) : Placed lt0 K key idx := by
  intro p x hp hx
  rw [rk_lt0 hp] at hx
  rw [hk, hi, hx]
  exact ⟨rfl, rfl⟩

/-- A rank read at the image of a rearrangement. -/
theorem rk_reindex {r : ℕ → ℕ} {n p : ℕ} {l l' : ℕ → ℕ → Prop} (hr : ∀ p, p < n → r p < n)
    (hi : ∀ p q, p < n → q < n → r p = r q → p = q) (h : ∀ q, q < n → (l (r q) (r p) ↔ l' q p)) : rk l n (r p) = rk l' n p := by
  classical
  unfold rk
  rw [card_reindex hr hi (fun q => l q (r p))]
  refine congrArg card (filter_congr fun q hq => h q (mem_range.1 hq))

variable {lt : ℕ → ℕ → Prop} (hl : Lin lt 8192) {K : ℕ → BitVec 32} {key idx : Vec F S8192 .i32} (hp : Placed lt K key idx)
  (dg : BitVec 32 → ℕ)
include hl hp

theorem Placed.dgOf {p : ℕ} (h : p < 8192) : dgOf dg key (rk lt 8192 p) = dg (K p) := by
  have hr := rk_lt hl h
  generalize hg : rk lt 8192 p = r at hr
  have := dgOf_pos dg key (ix r hr)
  rw [pos_ix] at this
  rw [this, (hp p (ix r hr) h ((pos_ix r hr).trans hg.symm)).1]

/-- Where a pass takes the key of position `p`. -/
theorem Placed.dest {p : ℕ} (h : p < 8192) :
    dest (Sort.dgOf dg key) (rk lt 8192 p) = rk (lex (fun p => dg (K p)) lt) 8192 p := by
  refine rk_reindex (fun _ => rk_lt hl) (fun _ _ => rk_inj hl) fun q hq => ?_
  unfold dlt lex
  rw [hp.dgOf hl dg hq, hp.dgOf hl dg h, rk_lt_iff hl hq h]

/-- The running sums of the original histogram serve every arrangement. -/
theorem Placed.below (d : ℕ) : below (fun p => dg (K p)) d = Sort.below (Sort.dgOf dg key) d := by
  classical
  unfold Sort.below
  rw [card_reindex (r := rk lt 8192) (fun _ => rk_lt hl) (fun _ _ => rk_inj hl) (fun q => Sort.dgOf dg key q < d)]
  refine congrArg card (filter_congr fun q hq => ?_)
  rw [hp.dgOf hl dg (mem_range.1 hq)]

/-- The arrangement after a pass. -/
theorem Placed.next {key' idx' : Vec F S8192 .i32} (hk : Moved (Sort.dgOf dg key) key key' 8192)
    (hi : Moved (Sort.dgOf dg key) idx idx' 8192) : Placed (lex (fun p => dg (K p)) lt) K key' idx' := by
  intro p x h hx
  have hr := rk_lt hl h
  rw [← hp.dest hl dg h] at hx
  generalize hg : rk lt 8192 p = r at hr hx
  have hx' : pos x = Sort.dest (Sort.dgOf dg key) (pos (ix r hr)) := hx
  rw [hk (ix r hr) x hr hx', hi (ix r hr) x hr hx']
  exact hp p _ h ((pos_ix r hr).trans hg.symm)

/-- The last pass, whose stores are of other values of the keys and the positions. -/
theorem Placed.last {e : EltTy} (g : BitVec 32 → Elt F e) (c : BitVec 32) {fit' : Vec F S8192 e} {idx' : Vec F S8192 .i32}
    (hk : Moved (Sort.dgOf dg key) (fun x => g (key x)) fit' 8192)
    (hi : Moved (e := .i32) (Sort.dgOf dg key) (fun x => (idx x : BitVec 32) + c) idx' 8192) {p : ℕ} (h : p < 8192) (x : S8192.Idx)
    (hx : pos x = rk (lex (fun p => dg (K p)) lt) 8192 p) :
    fit' x = g (K p) ∧ idx' x = BitVec.ofNat 32 p + c := by
  have hr := rk_lt hl h
  rw [← hp.dest hl dg h] at hx
  generalize hg : rk lt 8192 p = r at hr hx
  have hx' : pos x = Sort.dest (Sort.dgOf dg key) (pos (ix r hr)) := hx
  have := hp p (ix r hr) h ((pos_ix r hr).trans hg.symm)
  rw [hk (ix r hr) x hr hx', hi (ix r hr) x hr hx']
  exact ⟨congrArg g this.1, congrArg (fun w : BitVec 32 => w + c) this.2⟩

end Pass

/-! ## Running sums of the histogram -/

/-- The histogram of the first `n` positions: each position counted once in each of the three segments. -/
def hst (K : ℕ → BitVec 32) (n i : ℕ) : ℕ :=
  cnt (fun p => dg1 (K p)) n i + cnt (fun p => dg2 (K p)) n i + cnt (fun p => dg3 (K p)) n i

/-- The histogram whose first `n` elements from `o` on are replaced by the running sums before them. -/
def part (o : ℕ) (H : ℕ → ℕ) (n i : ℕ) : ℕ := if o ≤ i ∧ i < o + n then ∑ j ∈ Ico o i, H j else H i

theorem part_zero (o : ℕ) (H : ℕ → ℕ) : part o H 0 = H := by
  funext i
  unfold part
  rw [if_neg (by omega)]

/-- The three segments' running sums. -/
def bases (K : ℕ → BitVec 32) : ℕ → ℕ := part 4096 (part 2048 (part 0 (hst K 8192) 2048) 2048) 1024

theorem cnt_none {E : ℕ → ℕ} {n d : ℕ} (h : ∀ p, E p ≠ d) : cnt E n d = 0 := by
  unfold cnt
  rw [card_eq_zero, filter_eq_empty_iff]
  exact fun p _ => h p

theorem hst1 (K : ℕ → BitVec 32) (n : ℕ) {i : ℕ} (h : i < 2048) : hst K n i = cnt (fun p => dg1 (K p)) n i := by
  unfold hst
  rw [cnt_none (E := fun p => dg2 (K p)) fun p => by have := dg2_lt (K p); omega,
    cnt_none (E := fun p => dg3 (K p)) fun p => by have := dg3_lt (K p); omega]
  omega
theorem hst2 (K : ℕ → BitVec 32) (n : ℕ) {i : ℕ} (h : 2048 ≤ i) (h' : i < 4096) : hst K n i = cnt (fun p => dg2 (K p)) n i := by
  unfold hst
  rw [cnt_none (E := fun p => dg1 (K p)) fun p => by have := dg1_lt (K p); omega,
    cnt_none (E := fun p => dg3 (K p)) fun p => by have := dg3_lt (K p); omega]
  omega
theorem hst3 (K : ℕ → BitVec 32) (n : ℕ) {i : ℕ} (h : 4096 ≤ i) : hst K n i = cnt (fun p => dg3 (K p)) n i := by
  unfold hst
  rw [cnt_none (E := fun p => dg1 (K p)) fun p => by have := dg1_lt (K p); omega,
    cnt_none (E := fun p => dg2 (K p)) fun p => by have := dg2_lt (K p); omega]
  omega

theorem sum_below (E : ℕ → ℕ) (o i : ℕ) (h : ∀ p, o ≤ E p) : ∑ j ∈ Ico o i, cnt E 8192 j = below E i := by
  rw [sum_cnt]
  unfold below
  refine congrArg card (filter_congr fun p _ => ?_)
  have := h p
  omega

theorem bases1 (K : ℕ → BitVec 32) (p : ℕ) : bases K (dg1 (K p)) = below (fun p => dg1 (K p)) (dg1 (K p)) := by
  have h := dg1_lt (K p)
  unfold bases
  rw [part, if_neg (by omega), part, if_neg (by omega), part, if_pos (by omega), ← sum_below _ 0 _ (fun _ => Nat.zero_le _)]
  refine sum_congr rfl fun j hj => hst1 K _ ?_
  rw [mem_Ico] at hj
  omega

theorem bases2 (K : ℕ → BitVec 32) (p : ℕ) : bases K (dg2 (K p)) = below (fun p => dg2 (K p)) (dg2 (K p)) := by
  have h := dg2_lt (K p)
  unfold bases
  rw [part, if_neg (by omega), part, if_pos (by omega), ← sum_below _ 2048 _ (fun q => (dg2_lt (K q)).1)]
  refine sum_congr rfl fun j hj => ?_
  rw [mem_Ico] at hj
  rw [part, if_neg (by omega), hst2 K _ (by omega) (by omega)]

theorem bases3 (K : ℕ → BitVec 32) (p : ℕ) : bases K (dg3 (K p)) = below (fun p => dg3 (K p)) (dg3 (K p)) := by
  have h := dg3_lt (K p)
  unfold bases
  rw [part, if_pos (by omega), ← sum_below _ 4096 _ (fun q => (dg3_lt (K q)).1)]
  refine sum_congr rfl fun j hj => ?_
  rw [mem_Ico] at hj
  rw [part, if_neg (by omega), part, if_neg (by omega), hst3 K _ (by omega)]

/-- A running sum of words, by the numbers they are the words of. -/
theorem scan_nat (v : IVec S16 32) (w : ℕ → ℕ) (hv : ∀ x, v x = BitVec.ofNat 32 (w (pos x))) (x : S16.Idx) :
    scan (d := ![16]) .sum v x = BitVec.ofNat 32 (∑ j ∈ range (pos x + 1), w j) := by
  have hx := pos_lt x
  rw [scan_sum]
  generalize pos x = n at hx
  have h1 : ∀ l : Fin 16, (if l.val ≤ n then v (lane l) else 0) = BitVec.ofNat 32 (if l.val ≤ n then w l.val else 0) := by
    intro l
    split
    · rw [hv, pos_lane]
    · rfl
  rw [sum_congr rfl fun l _ => h1 l, ofNat_sum, Fin.sum_univ_eq_sum_range (fun l => if l ≤ n then w l else 0) 16, ← sum_filter]
  have hf : ((range 16).filter fun l => l ≤ n) = range (n + 1) := by
    ext l; rw [mem_filter, mem_range, mem_range]; omega
  rw [hf]

/-- One trip of a running sum, lane by lane. -/
theorem scan_place {o : ℕ} {H : ℕ → ℕ} {b : ℕ} {acc : BitVec 32} {v : IVec S16 32}
    (ha : acc = BitVec.ofNat 32 (∑ j ∈ Ico o (o + b), H j)) (hv : ∀ x, v x = BitVec.ofNat 32 (H (o + b + pos x))) (x : S16.Idx) :
    scan (d := ![16]) .sum v x + acc - v x = BitVec.ofNat 32 (∑ j ∈ Ico o (o + b + pos x), H j)
      ∧ acc + scan (d := ![16]) .sum v x = BitVec.ofNat 32 (∑ j ∈ Ico o (o + b + pos x + 1), H j) := by
  have e2 : scan (d := ![16]) .sum v x + acc = BitVec.ofNat 32 (∑ j ∈ Ico o (o + b + pos x + 1), H j) := by
    rw [scan_nat v (fun l => H (o + b + l)) hv, ha, ← BitVec.ofNat_add, add_comm,
      ← sum_Ico_consecutive H (show o ≤ o + b by omega) (show o + b ≤ o + b + pos x + 1 by omega),
      sum_Ico_eq_sum_range H (o + b), show o + b + pos x + 1 - (o + b) = pos x + 1 by omega]
  refine ⟨?_, (add_comm _ _).trans e2⟩
  rw [e2, sum_Ico_succ_top (by omega), BitVec.ofNat_add, hv, BitVec.add_sub_cancel]

/-- The sorted order: the position whose key comes `i`-th. -/
def nth (K : ℕ → BitVec 32) (i : ℕ) : ℕ := by
  classical exact if h : ∃ p, p < 8192 ∧ rk (lt3 K) 8192 p = i then h.choose else 0

theorem nth_spec (K : ℕ → BitVec 32) {i : ℕ} (hi : i < 8192) : nth K i < 8192 ∧ rk (lt3 K) 8192 (nth K i) = i := by
  have h := rk_surj (lt3_lin K) hi
  unfold nth
  rw [dif_pos h]
  exact h.choose_spec

theorem nth_lt (K : ℕ → BitVec 32) (i : ℕ) : nth K i < 8192 := by
  unfold nth
  split
  · rename_i h; exact h.choose_spec.1
  · decide

end Cert.Sort

end
-- ==== Proof.Setup.lean ====
/-
  The program as the launch theorem sees it, and the ownership of one scratch buffer by its contents: `own M v` is the
  full share of the elements that memref `M` names, reading `v`. The four accesses of the sort (load and store of
  sixteen words, indexed load, indexed store) are restated over it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton
public import proofs.«01_k».proof.Proof.Passes

@[expose] public section

noncomputable section

namespace Cert.Sort

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile of grid coordinates `i` -/

abbrev cV (i : grid0.Coords) : Fin τ.nSC := (i 0).castLE hcore0
abbrev jV (i : grid0.Coords) : Fin τ.nSub := (i 1).castLE hsub0

/-- The tile's thread. -/
abbrev thr (d : Dev nD) (i : grid0.Coords) : Thread nD τ := V d (cV i) (jV i)

variable [BitOps F] (d : Dev nD) (i : grid0.Coords)

/-- A weakest precondition in the tile's task. -/
abbrev wpt {α : Type} (p : Prog (TpuEff nD τ sig (Elt F) Λ₀ (.scVector ((i 0).castLE hcore0) ((i 1).castLE hsub0))) α) (Q : α → sProp 𝕄) : sProp 𝕄 :=
  wp frame (wpE (defs₀ (F := F)) 𝒱₀ (thr d i) none) Set.univ p Q

/-- The full share of the elements a memref names, reading `v`. -/
def own {s : Shape} {e : EltTy} (M : Memref sig .scVector .vmem s e) (v : Vec F s e) : sProp 𝕄 :=
  iprop(∃ f, ⌜M.view.read (Elt F) f = v⌝ ∗ (M.view.loc (thr d i) ↦[M.view.set]{fullShare} f))

variable {d i}

theorem set_access {s : Shape} {e : EltTy} (M : Memref sig .scVector .vmem s e) : (M.access (.whole s)).set = M.view.set := by
  show (M.view.slice (.whole s)).set = _
  rw [View.set_slice, Rect.set_whole]; rfl

theorem read_access {s : Shape} {e : EltTy} (M : Memref sig .scVector .vmem s e) (f : Buf (Elt F) (M.view.loc (thr d i))) :
    (M.access (.whole s)).read (Elt F) f = M.view.read (Elt F) f := by
  funext x
  show M.view.read (Elt F) f ((Rect.whole s).emb x) = _
  rw [Rect.emb_whole_apply]

theorem own_intro {s : Shape} {e : EltTy} {M : Memref sig .scVector .vmem s e} {f : Buf (Elt F) (M.view.loc (thr d i))} :
    (M.view.loc (thr d i) ↦[M.view.set]{fullShare} f) ⊢ own (F := F) d i M (M.view.read (Elt F) f) := by
  unfold own
  iintro H
  iexists f
  isplitr
  · ipureintro; rfl
  · iexact H

theorem wpt_load {s : Shape} {e : EltTy} {M : Memref sig .scVector .vmem s e} {v : Vec F s e} {r : Rect s}
    {hl : M.view.LoadsAt r.toLoadRect} {α : Type}
    {k : Vec F r.shape e → Prog (TpuEff nD τ sig (Elt F) Λ₀ (.scVector ((i 0).castLE hcore0) ((i 1).castLE hsub0))) α} {Q : α → sProp 𝕄} :
    own d i M v ⊢ iprop((∀ w : Vec F r.shape e, ⌜∀ x, w x = v (r.emb x)⌝ -∗ own d i M v -∗ wpt d i (k w) Q) -∗ wpt d i (Prog.lift (.load M r.toLoadRect hl) >>= k) Q) := by
  unfold own
  iintro ⟨%f, %hf, H⟩ Hk
  subst hf
  iapply (wp_load_rect (defs := defs₀) 𝒱₀ (thr d i) none Set.univ (Q := Q) (m := M) (r := r) (hl := hl) (k := k) (S := M.view.set)
    (q := fullShare) (f := f) (View.set_slice_subset _ _)) $$ H
  iintro H
  iapply Hk $$ %(fun x => M.view.read (Elt F) f (r.emb x)) %(fun _ => rfl)
  iexists f
  isplitr
  · ipureintro; rfl
  · iexact H

/-- The vector `v` with sixteen words stored at a rectangle. -/
def put {s : Shape} {e : EltTy} (v : Vec F s e) (r : Rect s) (w : Vec F r.shape e) : Vec F s e := by
  classical exact fun y => if h : ∃ x, r.emb x = y then w h.choose else v y

theorem put_emb {s : Shape} {e : EltTy} (v : Vec F s e) (r : Rect s) (w : Vec F r.shape e) (x : r.shape.Idx) : put v r w (r.emb x) = w x := by
  classical
  have h : ∃ x', r.emb x' = r.emb x := ⟨x, rfl⟩
  unfold put
  rw [dif_pos h, r.emb.injective h.choose_spec]

theorem put_of_not {s : Shape} {e : EltTy} (v : Vec F s e) (r : Rect s) (w : Vec F r.shape e) (y : s.Idx) (h : ∀ x, r.emb x ≠ y) :
    put v r w y = v y := by
  classical
  unfold put
  rw [dif_neg fun ⟨x, hx⟩ => h x hx]

theorem wpt_store {s : Shape} {e : EltTy} {M : Memref sig .scVector .vmem s e} {v : Vec F s e} {r : Rect s} {w : Vec F r.shape e}
    {hx : (M.access r).Stores Finset.univ} {hm : Finset.univ = Finset.univ ∨ ∀ a, r.stride a = 1} {α : Type}
    {k : PUnit → Prog (TpuEff nD τ sig (Elt F) Λ₀ (.scVector ((i 0).castLE hcore0) ((i 1).castLE hsub0))) α} {Q : α → sProp 𝕄} :
    own d i M v ⊢ iprop((own d i M (put v r w) -∗ wpt d i (k ⟨⟩) Q)
      -∗ wpt d i (Prog.lift (.store M r w Finset.univ hx hm) >>= k) Q) := by
  unfold own
  iintro ⟨%f, %hf, H⟩ Hk
  subst hf
  iapply (wp_store (defs := defs₀) 𝒱₀ (thr d i) none Set.univ (Q := Q) (m := M) (r := r) (w := w) (Mk := Finset.univ) (hx := hx) (hm := hm) (k := k)
    (S := M.view.set) (f := f) (View.set_slice_subset _ _)) $$ H
  iintro H
  iapply Hk
  iexists ((M.access r).write (Elt F) f w Finset.univ)
  isplitr
  · ipureintro
    funext y
    by_cases h : ∃ x, r.emb x = y
    · obtain ⟨x, rfl⟩ := h
      rw [put_emb]
      exact View.read_slice_write_emb r f w (Finset.mem_univ x)
    · rw [put_of_not _ _ _ _ fun x hx => h ⟨x, hx⟩]
      refine View.read_slice_write_of_not_mem r f w Finset.univ fun hy => h ?_
      obtain ⟨x, _, hx⟩ := Finset.mem_map.1 hy
      exact ⟨x, hx⟩
  · iexact H

theorem wpt_loadIdx {s t : Shape} {e : EltTy} {M : Memref sig .scVector .vmem s e} {v : Vec F s e} {idxs : Fin s.rank → IVec t 32}
    {h : ∀ a x, (idxs a x).toNat < s.size a} {hl : M.view.Loads} {α : Type}
    {k : Vec F t e → Prog (TpuEff nD τ sig (Elt F) Λ₀ (.scVector ((i 0).castLE hcore0) ((i 1).castLE hsub0))) α} {Q : α → sProp 𝕄} :
    own d i M v ⊢ iprop((∀ w : Vec F t e, ⌜w = loadIdx v idxs h⌝ -∗ own d i M v -∗ wpt d i (k w) Q)
      -∗ wpt d i (SparseCore.vectorLoadIdx M idxs h hl >>= k) Q) := by
  unfold own
  iintro ⟨%f, %hf, H⟩ Hk
  subst hf
  iapply (SparseCore.wp_vectorLoadIdx (defs := defs₀) 𝒱₀ (thr d i) none Set.univ (Q := Q) (base := M) (idxs := idxs) (h := h) (hl := hl) (k := k)
    (S := M.view.set) (q := fullShare) (f := f) (View.set_slice_subset _ _)) $$ H
  iintro H
  rw [read_access (F := F) (d := d) (i := i)]
  iapply Hk $$ %_ %rfl
  iexists f
  isplitr
  · ipureintro; rfl
  · iexact H

theorem wpt_storeIdx {s : Shape} {e : EltTy} {b : Fin 1 → ℕ} {M : Memref sig .scVector .vmem s e} {v : Vec F s e} {idxs : Fin s.rank → IVec ⟨1, b⟩ 32}
    {w : Vec F ⟨1, b⟩ e} {mask : IVec ⟨1, b⟩ 1} {add : Bool}
    {h : ∀ a x, (idxs a x).toNat < s.size a} {hs : (M.access (.whole s)).Stores Finset.univ} {α : Type}
    {k : PUnit → Prog (TpuEff nD τ sig (Elt F) Λ₀ (.scVector ((i 0).castLE hcore0) ((i 1).castLE hsub0))) α} {Q : α → sProp 𝕄} :
    own d i M v ⊢ iprop((own d i M (storeIdx v idxs w mask add h) -∗ wpt d i (k ⟨⟩) Q)
      -∗ wpt d i (SparseCore.vectorStoreIdx M idxs w mask add h hs >>= k) Q) := by
  unfold own
  iintro ⟨%f, %hf, H⟩ Hk
  subst hf
  have hset : (M.access (.whole s)).set = M.view.set := set_access M
  iapply (SparseCore.wp_vectorStoreIdx (defs := defs₀) 𝒱₀ (thr d i) none Set.univ (Q := Q) (base := M) (idxs := idxs) (v := w) (mask := mask)
    (add := add) (h := h) (hs := hs) (k := k) (f := f)) $$ [H]
  · rw [hset]; iexact H
  iintro H
  rw [read_access (F := F) (d := d) (i := i), hset]
  iapply Hk
  iexists ((M.access (.whole s)).write (Elt F) f (storeIdx (M.view.read (Elt F) f) idxs w mask add h) Finset.univ)
  isplitr
  · ipureintro
    rw [← read_access (F := F) (d := d) (i := i)]
    exact View.read_write_univ ..
  · iexact H

theorem wpt_assume {P : Prop} {dp : Decidable P} {α : Type}
    {k : PLift P → Prog (TpuEff nD τ sig (Elt F) Λ₀ (.scVector ((i 0).castLE hcore0) ((i 1).castLE hsub0))) α} {Q : α → sProp 𝕄} (h : P) :
    wpt d i (k ⟨h⟩) Q ⊢ wpt d i (Prog.lift (.assume P dp) >>= k) Q :=
  wp_assume (defs := defs₀) 𝒱₀ (thr d i) none Set.univ (k := k) h

theorem wpt_pure {α : Type} {a : α} {Q : α → sProp 𝕄} : Q a ⊢ wpt (F := F) d i (pure a) Q := by
  unfold wpt
  rw [wp_pure]
  exact fupd_intro ..

end Cert.Sort
-- ==== Proof.Steps.lean ====
/-
  The steps of the sort's loops over plain vectors: what sixteen words stored at an offset change, the words each loop
  computes, and one step of a pass.
-/
module

public import proofs.«01_k».proof.Proof.Setup

@[expose] public section

noncomputable section

namespace Cert.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

/-! ## The sixteen words at an offset -/

theorem pos_emb {n : ℕ} (off : Fin 1 → ℕ) (h : ∀ a, off a + S16.size a ≤ (⟨1, ![n]⟩ : Shape).size a) (x : S16.Idx) :
    pos ((Rect.unit (s := ⟨1, ![n]⟩) off S16.size h).emb x) = off 0 + pos x := by
  show (((Rect.unit (s := ⟨1, ![n]⟩) off S16.size h).emb x) 0).val = _
  rw [Rect.emb_apply]
  show off 0 + 1 * (x 0).val = _
  rw [Nat.one_mul]

theorem put_at {n : ℕ} {e : EltTy} (v : Vec F ⟨1, ![n]⟩ e) (off : Fin 1 → ℕ) (h : ∀ a, off a + S16.size a ≤ (⟨1, ![n]⟩ : Shape).size a)
    (w : Vec F S16 e) {x : S16.Idx} {y : (⟨1, ![n]⟩ : Shape).Idx} (hy : pos y = off 0 + pos x) :
    put v (Rect.unit (s := ⟨1, ![n]⟩) off S16.size h) w y = w x := by
  obtain rfl : (Rect.unit (s := ⟨1, ![n]⟩) off S16.size h).emb x = y := pos_inj (by rw [pos_emb, hy])
  exact put_emb ..

theorem put_out {n : ℕ} {e : EltTy} (v : Vec F ⟨1, ![n]⟩ e) (off : Fin 1 → ℕ) (h : ∀ a, off a + S16.size a ≤ (⟨1, ![n]⟩ : Shape).size a)
    (w : Vec F S16 e) {y : (⟨1, ![n]⟩ : Shape).Idx} (hy : pos y < off 0 ∨ off 0 + 16 ≤ pos y) :
    put v (Rect.unit (s := ⟨1, ![n]⟩) off S16.size h) w y = v y := by
  refine put_of_not _ _ _ _ fun x hx => ?_
  have h1 := pos_emb (n := n) off h x
  have h2 := pos_lt x
  rw [hx] at h1
  omega

/-- An index of a segment is below it, in it, or above it. -/
theorem seg_cases {n : ℕ} (y : (⟨1, ![n]⟩ : Shape).Idx) (o : ℕ) : (∃ x : S16.Idx, pos y = o + pos x) ∨ (pos y < o ∨ o + 16 ≤ pos y) := by
  by_cases h : pos y < o ∨ o + 16 ≤ pos y
  · exact .inr h
  · refine .inl ⟨ix (pos y - o) (by omega), ?_⟩
    rw [pos_ix]; omega

/-! ## The words the loops compute -/

/-- The key of a fitness. -/
def enc (z : F .f32) : BitVec 32 := k0_pay1 (F := F) (fun _ => z) (lane 0)
/-- The fitness of a key. -/
def dec (w : BitVec 32) : F .f32 := k0_pay37 (F := F) (fun _ => w) (lane 0)

theorem pay1_eq (v : Vec F S16 .f32) (x : S16.Idx) : k0_pay1 v x = enc (v x) := rfl
theorem pay37_eq (v : Vec F S16 .i32) (x : S16.Idx) : k0_pay37 v x = dec (v x) := rfl

theorem pay26_eq (t l : Vec F S16 .i32) (x : S16.Idx) : k0_pay26 t l x = (l x : BitVec 32) + (scanCount (fun _ => 1) t).2 x - 1#32 := rfl
theorem pay31_eq (t l : Vec F S16 .i32) (x : S16.Idx) : k0_pay31 t l x = (l x : BitVec 32) + (scanCount (fun _ => 1) t).2 x - 1#32 := rfl
theorem pay36_eq (t l : Vec F S16 .i32) (x : S16.Idx) : k0_pay36 t l x = (l x : BitVec 32) + (scanCount (fun _ => 1) t).2 x - 1#32 := rfl

theorem pay16_eq (acc : BitVec 32) (v : Vec F S16 .i32) (x : S16.Idx) :
    k0_pay16 acc v x = scan (d := ![16]) .sum (v : IVec S16 32) x + acc - (v x : BitVec 32) := rfl
theorem pay18_eq (acc : BitVec 32) (v : Vec F S16 .i32) (x : S16.Idx) :
    k0_pay18 acc v x = scan (d := ![16]) .sum (v : IVec S16 32) x + acc - (v x : BitVec 32) := rfl
theorem pay20_eq (acc : BitVec 32) (v : Vec F S16 .i32) (x : S16.Idx) :
    k0_pay20 acc v x = scan (d := ![16]) .sum (v : IVec S16 32) x + acc - (v x : BitVec 32) := rfl
theorem pay17_eq (v : Vec F S16 .i32) : extractAt ![15] (k0_pay17 v) inpos_S16_p15 = scan (d := ![16]) .sum (v : IVec S16 32) (lane 15) := rfl
theorem pay19_eq (v : Vec F S16 .i32) : extractAt ![15] (k0_pay19 v) inpos_S16_p15 = scan (d := ![16]) .sum (v : IVec S16 32) (lane 15) := rfl
theorem pay21_eq (v : Vec F S16 .i32) : extractAt ![15] (k0_pay21 v) inpos_S16_p15 = scan (d := ![16]) .sum (v : IVec S16 32) (lane 15) := rfl
theorem pay38_eq (c : BitVec 32) (v : Vec F S16 .i32) (x : S16.Idx) : k0_pay38 c v x = (v x : BitVec 32) + c * 8192#32 := rfl
theorem pay22_eq (v : Vec F S16 .i32) (x : S16.Idx) : k0_pay22 v x = (v x : BitVec 32) &&& 2047#32 := rfl
theorem pay27_eq (v : Vec F S16 .i32) (x : S16.Idx) : k0_pay27 v x = (((v x : BitVec 32) >>> 11) &&& 2047#32) + 2048#32 := rfl
theorem pay32_eq (v : Vec F S16 .i32) (x : S16.Idx) : k0_pay32 v x = ((v x : BitVec 32) >>> 22) + 4096#32 := rfl
theorem pay3_eq (v : Vec F S16 .f32) (x : S16.Idx) : k0_pay3 v x = enc (v x) &&& 2047#32 := rfl
theorem pay4_eq (v : Vec F S16 .f32) (x : S16.Idx) : k0_pay4 v x = ((enc (v x) >>> 11) &&& 2047#32) + 2048#32 := rfl
theorem pay5_eq (v : Vec F S16 .f32) (x : S16.Idx) : k0_pay5 v x = (enc (v x) >>> 22) + 4096#32 := rfl

/-- The keys of a row, by position. -/
def keys (fit : Vec F S8192 .f32) (p : ℕ) : BitVec 32 := if h : p < 8192 then enc (fit (ix p h)) else 0#32

theorem keys_pos (fit : Vec F S8192 .f32) (x : S8192.Idx) : keys fit (pos x) = enc (fit x) := by
  unfold keys
  rw [dif_pos (pos_lt x), ix_pos]

theorem pay2_eq (k : Fin k0_t2_loop.trips) (x : S16.Idx) : k0_pay2 0#32 1#32 k x = BitVec.ofNat 32 (16 * k.val + pos x) := by
  have h1 : k0_pay2 0#32 1#32 k x = BitVec.ofNat 32 (0 * 16 + pos x) + (0#32 + BitVec.ofNat 32 k.val * 1#32) * 16#32 := rfl
  rw [h1, BitVec.mul_one, BitVec.zero_add, ← BitVec.ofNat_mul, ← BitVec.ofNat_add]
  congr 1
  omega

theorem Holds.congr {n : ℕ} {f : Vec F ⟨1, ![n]⟩ .i32} {T T' : ℕ → ℕ} (h : Holds f T) (e : ∀ i, T i = T' i) : Holds f T' := fun i => by
  rw [h i, e]

/-! ## One pass, by its contents

The digit `dg` of the keys in `key` decides; `kv` and `iv` are the two vectors moved, `k2` and `i2` where to, `h` the
counters, which start from `T`. -/

structure Pass {e : EltTy} (dg : BitVec 32 → ℕ) (T : ℕ → ℕ) (key : Vec F S8192 .i32) (kv : Vec F S8192 e) (iv : Vec F S8192 .i32)
    (k2 : Vec F S8192 e) (i2 : Vec F S8192 .i32) (h : Vec F S5120 .i32) (n : ℕ) : Prop where
  hist : Holds h fun i => T i + cnt (dgOf dg key) (16 * n) i
  mvk : Moved (dgOf dg key) kv k2 (16 * n)
  mvi : Moved (dgOf dg key) iv i2 (16 * n)

section Pass

variable {e : EltTy} {dg : BitVec 32 → ℕ} {T : ℕ → ℕ} {key : Vec F S8192 .i32} {kv : Vec F S8192 e} {iv : Vec F S8192 .i32}
  {k2 : Vec F S8192 e} {i2 : Vec F S8192 .i32} {h : Vec F S5120 .i32} {n : ℕ} (hp : Pass dg T key kv iv k2 i2 h n) (hn : n < 512)
  (hT : ∀ p, p < 8192 → T (dgOf dg key p) = below (dgOf dg key) (dgOf dg key p))
  {t w : IVec S16 32} (ht : Digs (dgOf dg key) n t) (ht' : ∀ a x, ((![t] : Fin 1 → IVec S16 32) a x).toNat < S5120.size a)
  (hw : ∀ x, w x = (loadIdx (e := .i32) h ![t] ht' x : BitVec 32) + (scanCount (fun _ => 1) t).2 x - 1#32)
include hp hn hT ht hw

theorem Pass.dest (x : S16.Idx) : (w x).toNat = dest (dgOf dg key) (16 * n + pos x) := by
  rw [hw]
  exact place ht hp.hist hn hT ht' x

theorem Pass.dest_lt (x : S16.Idx) : (w x).toNat < 8192 := by
  rw [hp.dest hn hT ht ht' hw]
  have := pos_lt x
  exact rk_lt (dlt_lin _) (by omega)

theorem Pass.inb : ∀ a x, ((![w] : Fin 1 → IVec S16 32) a x).toNat < S8192.size a := by
  intro a x
  obtain rfl := Fin.eq_zero a
  exact hp.dest_lt hn hT ht ht' hw x

theorem Pass.step {v : Vec F S16 e} {u : Vec F S16 .i32} (hw1 hw2 : ∀ a x, ((![w] : Fin 1 → IVec S16 32) a x).toNat < S8192.size a)
    (hv : ∀ (x : S16.Idx) (y : S8192.Idx), pos y = 16 * n + pos x → v x = kv y)
    (hu : ∀ (x : S16.Idx) (y : S8192.Idx), pos y = 16 * n + pos x → u x = iv y) :
    Pass dg T key kv iv (storeIdx (d := ![16]) k2 ![w] v (fun _ => 1#1) false hw1) (storeIdx (d := ![16]) i2 ![w] u (fun _ => 1#1) false hw2)
      (storeIdx (d := ![16]) (e := .i32) h ![t] (scanCount (fun _ => 1) t).2 (scanCount (fun _ => 1) t).1 true ht') (n + 1) :=
  ⟨hist_step ht hp.hist ht', moved_step hn hp.mvk v (hp.dest hn hT ht ht' hw) hv hw1,
    moved_step hn hp.mvi u (hp.dest hn hT ht ht' hw) hu hw2⟩

end Pass

/-- Sixteen digits read at the trip's offset. -/
theorem digs_of {dg : BitVec 32 → ℕ} {key : Vec F S8192 .i32} {n : ℕ} {off : Fin 1 → ℕ} (hi : ∀ a, off a + S16.size a ≤ S8192.size a)
    (ho : off 0 = 16 * n) {t : IVec S16 32} (h : ∀ x, (t x).toNat = dg (key ((Rect.unit (s := S8192) off S16.size hi).emb x))) :
    Digs (dgOf dg key) n t := by
  intro x
  exact (h x).trans ((dgOf_pos dg key _).symm.trans (congrArg (dgOf dg key) ((pos_emb (n := 8192) off hi x).trans (by rw [ho]))))

theorem dgOf_lt {dg : BitVec 32 → ℕ} {key : Vec F S8192 .i32} (h : ∀ w, dg w < 5120) (q : ℕ) : dgOf dg key q < 5120 := by
  unfold dgOf
  split
  · exact h _
  · decide

/-- What the trip reads, at the elements it reads them from. -/
theorem read_of {e : EltTy} {kv : Vec F S8192 e} {n : ℕ} {off : Fin 1 → ℕ} (hi : ∀ a, off a + S16.size a ≤ S8192.size a)
    (ho : off 0 = 16 * n) (x : S16.Idx) (y : S8192.Idx) (hy : pos y = 16 * n + pos x) :
    kv ((Rect.unit (s := S8192) off S16.size hi).emb x) = kv y := by
  congr 1
  exact pos_inj ((pos_emb (n := 8192) off hi x).trans (by rw [ho, hy]))

theorem one_inb {n : ℕ} {w : IVec S16 32} (h : ∀ x, (w x).toNat < n) : ∀ a x, ((![w] : Fin 1 → IVec S16 32) a x).toNat < (⟨1, ![n]⟩ : Shape).size a := by
  intro a x
  obtain rfl := Fin.eq_zero a
  exact h x

/-- The key read at the trip's offset, by its position. -/
theorem key_of {fit : Vec F S8192 .f32} {n : ℕ} {off : Fin 1 → ℕ} (hi : ∀ a, off a + S16.size a ≤ S8192.size a) (ho : off 0 = 16 * n) (x : S16.Idx) :
    enc (fit ((Rect.unit (s := S8192) off S16.size hi).emb x)) = keys fit (16 * n + pos x) := by
  rw [← keys_pos]
  exact congrArg (keys fit) ((pos_emb (n := 8192) off hi x).trans (by rw [ho]))

/-- Counting the three digits of sixteen keys. -/
theorem count_step {K : ℕ → BitVec 32} {h : Vec F S5120 .i32} {n : ℕ} (hh : Holds h (hst K (16 * n))) {t1 t2 t3 : IVec S16 32}
    (h1 : Digs (fun p => dg1 (K p)) n t1) (h2 : Digs (fun p => dg2 (K p)) n t2) (h3 : Digs (fun p => dg3 (K p)) n t3)
    (i1 : ∀ a x, ((![t1] : Fin 1 → IVec S16 32) a x).toNat < S5120.size a) (i2 : ∀ a x, ((![t2] : Fin 1 → IVec S16 32) a x).toNat < S5120.size a)
    (i3 : ∀ a x, ((![t3] : Fin 1 → IVec S16 32) a x).toNat < S5120.size a) :
    Holds (storeIdx (d := ![16]) (e := .i32) (storeIdx (d := ![16]) (e := .i32) (storeIdx (d := ![16]) (e := .i32) h
        ![t1] (scanCount (fun _ => 1) t1).2 (scanCount (fun _ => 1) t1).1 true i1)
        ![t2] (scanCount (fun _ => 1) t2).2 (scanCount (fun _ => 1) t2).1 true i2)
        ![t3] (scanCount (fun _ => 1) t3).2 (scanCount (fun _ => 1) t3).1 true i3) (hst K (16 * (n + 1))) := by
  have s1 := hist_step (T := fun i => cnt (fun p => dg2 (K p)) (16 * n) i + cnt (fun p => dg3 (K p)) (16 * n) i) h1
    (hh.congr fun i => by unfold hst; omega) i1
  have s2 := hist_step (T := fun i => cnt (fun p => dg1 (K p)) (16 * (n + 1)) i + cnt (fun p => dg3 (K p)) (16 * n) i) h2
    (s1.congr fun i => by omega) i2
  have s3 := hist_step (T := fun i => cnt (fun p => dg1 (K p)) (16 * (n + 1)) i + cnt (fun p => dg2 (K p)) (16 * (n + 1)) i) h3
    (s2.congr fun i => by omega) i3
  exact s3.congr fun i => by unfold hst; omega

/-- One trip of a running sum. -/
theorem seg_step {o b : ℕ} {H : ℕ → ℕ} {h : Vec F S5120 .i32} {acc : BitVec 32} {off : Fin 1 → ℕ} (hi : ∀ a, off a + S16.size a ≤ S5120.size a)
    (ho : off 0 = o + b) (hh : Holds h (part o H b)) (ha : acc = BitVec.ofNat 32 (∑ j ∈ Finset.Ico o (o + b), H j)) {v w : Vec F S16 .i32}
    (hv : ∀ x, v x = h ((Rect.unit (s := S5120) off S16.size hi).emb x)) (hw : ∀ x, w x = scan (d := ![16]) .sum (v : IVec S16 32) x + acc - (v x : BitVec 32)) :
    Holds (put h (Rect.unit (s := S5120) off S16.size hi) w) (part o H (b + 16))
      ∧ acc + scan (d := ![16]) .sum (v : IVec S16 32) (lane 15) = BitVec.ofNat 32 (∑ j ∈ Finset.Ico o (o + (b + 16)), H j) := by
  have hv' : ∀ x, (v x : BitVec 32) = BitVec.ofNat 32 (H (o + b + pos x)) := fun x => by
    rw [hv, hh]
    have e : pos ((Rect.unit (s := S5120) off S16.size hi).emb x) = o + b + pos x := (pos_emb (n := 5120) off hi x).trans (by rw [ho])
    rw [e, part, if_neg (by omega)]
  constructor
  · intro y
    rcases seg_cases (n := 5120) y (off 0) with ⟨x, hy⟩ | hy
    · rw [put_at _ _ _ _ hy, hw, (scan_place ha hv' x).1]
      have := pos_lt x
      rw [hy, ho, part, if_pos (by omega)]
    · rw [put_out _ _ _ _ hy, hh]
      congr 1
      unfold part
      by_cases hc : o ≤ pos y ∧ pos y < o + b
      · rw [if_pos hc, if_pos (by omega)]
      · rw [if_neg hc, if_neg (by omega)]
  · rw [(scan_place ha hv' (lane 15)).2, pos_lane]
    rfl

end Cert.Sort
-- ==== Proof.Slots.lean ====
/-
  The gather phase of a tile, one slot at a time. A slot of the staging buffer has one gather in flight, of the
  sixty-four rows its window of the list names; a turn of the ring waits for it, copies the slot to the tile's next
  sixty-four rows of the result, waits, and issues the slot's next gather.
-/
module

public import proofs.«01_k».proof.Proof.Steps

@[expose] public section

noncomputable section

namespace Cert.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

/-! ## Contents -/

/-- The slot holds the rows of `xs` that the list names from its word `w` on. -/
def Good (xs : Vec F S262144x128 .f32) (ls : Vec F S8192 .i32) (w : ℕ) (v : Vec F S64x128 .f32) : Prop :=
  ∀ (u : S64x128.Idx) (z : S262144x128.Idx) (p : S8192.Idx), pos p = w + (u 0).val → (z 0).val = (ls p : BitVec 32).toNat → (z 1).val = (u 1).val → v u = xs z

/-- Block `b` of the result holds the rows of `xs` that the list's first `w` words name. -/
def Done (xs : Vec F S262144x128 .f32) (ls : Vec F S8192 .i32) (b w : ℕ) (v : Vec F S262144x128 .f32) : Prop :=
  ∀ (u z : S262144x128.Idx) (p : S8192.Idx), pos p < w → (u 0).val = 8192 * b + pos p → (z 0).val = (ls p : BitVec 32).toNat → (z 1).val = (u 1).val → v u = xs z

/-- The rows of block `b`. -/
def blkIdx (b : ℕ) : Finset S262144x128.Idx := Finset.univ.filter fun z => (z 0).val / 8192 = b

theorem emb_all {hb : ∀ a, ![0, 0] a + S262144x128.size a ≤ S262144x128.size a} (z : S262144x128.Idx) :
    (Rect.unit (s := S262144x128) ![0, 0] S262144x128.size hb).emb z = z := by
  funext a
  apply Fin.ext
  rw [Rect.emb_apply]
  show ![0, 0] a + 1 * (z a).val = _
  fin_cases a <;> (simp)

/-- What a gather leaves in its slot. -/
theorem good_gather (xs : Vec F S262144x128 .f32) (ls : Vec F S8192 .i32) {n : ℕ} {oL : Fin 1 → ℕ} {inb : ∀ a, oL a + S64.size a ≤ S8192.size a}
    (ho : oL 0 = 64 * n) {hn : S64.numel = S64x128.size gathers_S262144x128_S64x128.axis'}
    (g : Vec F S262144x128 .f32) (hg : ∀ z, g z = xs z) (w : Vec F S64 .i32) (hw : ∀ j, w j = ls ((Rect.unit (s := S8192) oL S64.size inb).emb j))
    (hin : ∀ p, (w p : BitVec 32).toNat < S262144x128.size gathers_S262144x128_S64x128.axis) :
    Good xs ls (64 * n) (SparseCore.gatherPayload gathers_S262144x128_S64x128 g (SparseCore.rows w hn hin)) := by
  intro u z p hp hz0 hz1
  show g _ = xs z
  rw [hg]
  congr 1
  funext a
  apply Fin.ext
  have hj : ∀ j : S64.Idx, pos j = (u 0).val → w j = ls p := fun j hj => by
    rw [hw]; congr 1; apply pos_inj
    show (((Rect.unit (s := S8192) oL S64.size inb).emb j) 0).val = _
    rw [Rect.emb_apply]
    show oL 0 + 1 * pos j = _
    omega
  fin_cases a
  · have h := Shape.Gathers.idx_axis gathers_S262144x128_S64x128 (SparseCore.rows w hn hin) u
    refine (congrArg Fin.val h).trans ?_
    show (w _ : BitVec 32).toNat = (z 0).val
    rw [hj _ ?_, hz0]
    rw [← rowMajor_pos, Equiv.apply_symm_apply]
    rfl
  · exact (Shape.Gathers.idx_of_ne gathers_S262144x128_S64x128 (SparseCore.rows w hn hin) u 1 (by decide)).trans hz1.symm

/-- The block's rows after one more slot has been copied to them. -/
theorem Done.next {xs : Vec F S262144x128 .f32} {ls : Vec F S8192 .i32} {b n : ℕ} {v v' : Vec F S262144x128 .f32} {w : Vec F S64x128 .f32}
    {oY : Fin 2 → ℕ} {inb : ∀ a, oY a + S64x128.size a ≤ S262144x128.size a} (h0 : oY 0 = 8192 * b + 64 * n) (h1 : oY 1 = 0)
    (h : Done xs ls b (64 * n) v) (hw : Good xs ls (64 * n) w)
    (hin : ∀ j, v' ((Rect.unit (s := S262144x128) oY S64x128.size inb).emb j) = w j)
    (hout : ∀ u, (∀ j, (Rect.unit (s := S262144x128) oY S64x128.size inb).emb j ≠ u) → v' u = v u) : Done xs ls b (64 * (n + 1)) v' := by
  have he : ∀ (j : S64x128.Idx) (a : Fin 2), ((Rect.unit (s := S262144x128) oY S64x128.size inb).emb j a).val = oY a + (j a).val := fun j a => by
    rw [Rect.emb_apply]
    show oY a + 1 * (j a).val = _
    rw [Nat.one_mul]
  intro u z p hp hu hz0 hz1
  by_cases hlt : pos p < 64 * n
  · rw [hout u, h u z p hlt hu hz0 hz1]
    rintro j rfl
    have := he j 0
    rw [h0] at this
    omega
  · let j : S64x128.Idx := fun a => if ha : a = 0 then ⟨pos p - 64 * n, by subst ha; show _ < 64; omega⟩ else ⟨(u 1).val, by
      obtain rfl : a = 1 := by apply Fin.ext; have := a.isLt; have : a.val ≠ 0 := fun h => ha (Fin.ext h); show a.val = 1; change a.val < 2 at *; omega
      exact (u 1).isLt⟩
    have hj0 : (j 0).val = pos p - 64 * n := rfl
    have hj1 : (j 1).val = (u 1).val := rfl
    have hju : (Rect.unit (s := S262144x128) oY S64x128.size inb).emb j = u := by
      funext a
      apply Fin.ext
      fin_cases a
      · exact (he j 0).trans (show _ = (u 0).val by rw [h0, hj0, hu]; omega)
      · exact (he j 1).trans (show _ = (u 1).val by rw [h1, hj1, Nat.zero_add])
    rw [← hju, hin j]
    exact hw j z p (by rw [hj0]; omega) hz0 (by rw [hj1]; exact hz1)

section Slots

variable {d : Dev nD} {i : grid0.Coords}
variable (O : CellTallies nD τ sig (HIx 1)) (W : Waits sig (HIx 1))
variable (x : Memref sig .scVector .hbm S262144x128 .f32) (l : Memref sig .scVector .vmem S8192 .i32) (y : Memref sig .scVector .hbm S262144x128 .f32)
variable (fx : Buf (Elt F) (x.view.loc (thr d i))) (fl : Buf (Elt F) (l.view.loc (thr d i)))

/-- What the tile owes, over the waits it has made. -/
def ow (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W' ∗ Transfers.MayWaits (thr d i) (default : HIx 1) O)

/-- A wait for a flight of the tile's own. -/
theorem wpt_wait {sp sp' : Space} {s s' : Shape} {e e' : EltTy} {sem : DmaSem sig} {N : ℕ} {Dl : sProp 𝕄}
    {srcw : Memref sig .scVector sp' s' e'} {dstw : Memref sig .scVector sp s e} {hsrc : srcw.view.WordExact} {hdst : dstw.view.WordExact}
    (hN : dstw.view.dmaCredit = N) {α : Type}
    {k : PUnit → Prog (TpuEff nD τ sig (Elt F) Λ₀ (.scVector ((i 0).castLE hcore0) ((i 1).castLE hsub0))) α} {Q : α → sProp 𝕄} :
    iprop(Transfers.Flight countersEmb (thr d i) (.dma sem) (default : HIx 1) N Dl ∗ ow d i O W)
      ⊢ iprop((iprop(Dl ∗ semVal (thr d i, SemLoc.dma sem) 0 ∗ ow d i O W) -∗ wpt d i (k ⟨⟩) Q)
          -∗ wpt d i (Prog.lift (.waitDma2 sem srcw dstw hsrc hdst) >>= k) Q) := by
  unfold ow
  iintro ⟨HF, %W', %hW, HO, #Hmw⟩ Hk
  iapply (Transfers.wp_waitLocalO countersEmb (defs := defs₀ (F := F)) 𝒱₀ (thr d i) none (Q := Q) (srcw := srcw) (dstw := dstw) (hsrc := hsrc) (hdst := hdst) (k := k)
    (default : HIx 1) hN (O := O) (W := W')) $$ [HF HO]
  · isplitl [HF]; · iexact HF
    isplitl [HO]; · iexact HO
    iapply (Transfers.MayWaits.elim (SemLoc.dma sem)) $$ Hmw
  iintro ⟨HD, Hs, HO⟩
  iapply Hk
  isplitl [HD]; · iexact HD
  isplitl [Hs]; · iexact Hs
  iexists (insert (SemLoc.dma sem, (default : HIx 1)) W')
  isplitr
  · ipureintro
    intro p hp
    rcases Finset.mem_insert.1 hp with rfl | h
    · exact .inr rfl
    · exact hW p h
  isplitl [HO]; · iexact HO
  iexact Hmw

/-- A slot's gather of list window `n` in flight. -/
def Fly (M : Memref sig .scVector .vmem S64x128 .f32) (sem : DmaSem sig) (q ql : PosShare TreeShare) (n : ℕ) : sProp 𝕄 :=
  iprop(∃ I : Finset (Idx (l.view.loc (thr d i))), ⌜I ⊆ l.view.set⌝
    ∗ Transfers.Flight countersEmb (thr d i) (.dma sem) (default : HIx 1) M.view.dmaCredit
        iprop((∃ v, ⌜Good (x.view.read (Elt F) fx) (l.view.read (Elt F) fl) (64 * n) v⌝ ∗ own d i M v)
          ∗ (x.view.loc (thr d i) ↦[x.view.set]{q} fx) ∗ (l.view.loc (thr d i) ↦[I]{ql} fl))
    ∗ (l.view.loc (thr d i) ↦[l.view.set \ I]{ql} fl))

/-- A slot with no gather in flight. -/
def Idle (M : Memref sig .scVector .vmem S64x128 .f32) (q ql : PosShare TreeShare) (P : Vec F S64x128 .f32 → Prop) : sProp 𝕄 :=
  iprop((∃ v, ⌜P v⌝ ∗ own d i M v) ∗ (x.view.loc (thr d i) ↦[x.view.set]{q} fx) ∗ (l.view.loc (thr d i) ↦[l.view.set]{ql} fl))

theorem wpt_issue {M : Memref sig .scVector .vmem S64x128 .f32} {sem : DmaSem sig} {q ql : PosShare TreeShare} {n : ℕ} {P : Vec F S64x128 .f32 → Prop}
    {oL : Fin 1 → ℕ} {inb : ∀ a, oL a + S64.size a ≤ S8192.size a} (ho : oL 0 = 64 * n)
    {hst0 : ∀ a, (Rect.unit (s := S262144x128) ![0, 0] S262144x128.size inb_S262144x128_S262144x128_0_0).stride a = 1}
    {hst1 : ∀ a, (Rect.unit (s := S8192) oL S64.size inb).stride a = 1}
    {hp : (Proc.scVector (τ := τ) ((i 0).castLE hcore0) ((i 1).castLE hsub0)).kind = .scVector}
    {hn : S64.numel = S64x128.size gathers_S262144x128_S64x128.axis'}
    {hsrc : (x.slice (Rect.unit (s := S262144x128) ![0, 0] S262144x128.size inb_S262144x128_S262144x128_0_0) hst0).view.WordExact}
    {he : EltTy.f32.bits = 32} {hsp : Space.hbm = .hbm ∨ Space.hbm = .shared} {hr : S262144x128.StreamRows 0}
    (hls : ∀ p, (l.view.read (Elt F) fl p : BitVec 32).toNat < 262144) {α : Type}
    {k : PUnit → Prog (TpuEff nD τ sig (Elt F) Λ₀ (.scVector ((i 0).castLE hcore0) ((i 1).castLE hsub0))) α} {Q : α → sProp 𝕄} :
    iprop(Idle (F := F) (d := d) (i := i) x l fx fl M q ql P ∗ semVal (thr d i, SemLoc.dma sem) 0)
      ⊢ iprop((Fly (F := F) (d := d) (i := i) x l fx fl M sem q ql n -∗ wpt d i (k ⟨⟩) Q)
          -∗ wpt d i (SparseCore.enqueueIndirectGather hp (x.slice (Rect.unit (s := S262144x128) ![0, 0] S262144x128.size inb_S262144x128_S262144x128_0_0) hst0) M
              gathers_S262144x128_S64x128 (l.slice (Rect.unit (s := S8192) oL S64.size inb) hst1) hn sem hsrc he hsp hr >>= k) Q) := by
  unfold Idle own
  iintro ⟨⟨⟨%v, %_, %f, %_, HM⟩, Hx, Hl⟩, Hs⟩ Hk
  have hset : (x.slice (Rect.unit (s := S262144x128) ![0, 0] S262144x128.size inb_S262144x128_S262144x128_0_0) hst0).view.set = x.view.set := by
    show (x.view.slice _).set = _
    rw [View.set_slice]
    refine congrArg (Finset.map x.view.emb) (?_ : _ = Finset.univ)
    exact Finset.eq_univ_iff_forall.2 fun z => Rect.mem_set_unit.2 fun a => by
      have := (z a).isLt
      fin_cases a <;> exact ⟨Nat.zero_le _, by simpa using this⟩
  have hin : ∀ p, ((l.slice (Rect.unit (s := S8192) oL S64.size inb) hst1).view.read (Elt F) fl p : BitVec 32).toNat < S262144x128.size gathers_S262144x128_S64x128.axis :=
    fun p => hls _
  have hsub : (l.slice (Rect.unit (s := S8192) oL S64.size inb) hst1).view.set ⊆ l.view.set := View.set_slice_subset _ _
  icases (pointsTo_split_subset hsub).1 $$ Hl with ⟨HlI, Hlo⟩
  iapply (SparseCore.wp_indirectGatherLocal countersEmb (defs := defs₀ (F := F)) 𝒱₀ (thr d i) none (Q := Q)
    (src := x.slice (Rect.unit (s := S262144x128) ![0, 0] S262144x128.size inb_S262144x128_S262144x128_0_0) hst0) (dst := M)
    (hg := gathers_S262144x128_S64x128) (offs := l.slice (Rect.unit (s := S8192) oL S64.size inb) hst1) (hn := hn) (sem := sem) (hp := hp)
    (hsrc := hsrc) (he := he) (hsp := hsp) (hr := hr) (k := k) (q := q) (qo := ql) (fs := fx) (fd := f) (fo := fl)
    (default : HIx 1) M.view.dmaCredit (SparseCore.sum_rowCredit_eq_dmaCredit M _ fun _ => rfl) (by decide) hin) $$ [Hx HM HlI Hs]
  · isplitl [Hx]
    · rw [hset]; iexact Hx
    isplitl [HM]; · iexact HM
    isplitl [HlI]; · iexact HlI
    iexact Hs
  iintro HF
  iapply Hk
  unfold Fly
  iexists (l.slice (Rect.unit (s := S8192) oL S64.size inb) hst1).view.set
  isplitr
  · ipureintro; exact hsub
  isplitl [HF]
  · iapply (Transfers.Flight_mono countersEmb (thr d i) ?_) $$ HF
    rw [hset]
    iintro ⟨HM, Hx, Hl⟩
    isplitl [HM]
    · iexists _
      isplitr
      rotate_left
      · iapply own_intro $$ HM
      ipureintro
      rw [View.read_write_univ]
      exact good_gather (x.view.read (Elt F) fx) (l.view.read (Elt F) fl) (inb := inb) ho _ (fun z => congrArg (x.view.read (Elt F) fx) (emb_all z)) _ (fun j => rfl) hin
    isplitl [Hx]; · iexact Hx
    iexact Hl
  · iexact Hlo

theorem wpt_collect {M : Memref sig .scVector .vmem S64x128 .f32} {sem : DmaSem sig} {q ql : PosShare TreeShare} {n : ℕ}
    {srcw : Memref sig .scVector .hbm S262144x128 .f32} {hsrc : srcw.view.WordExact} {hdst : M.view.WordExact} {α : Type}
    {k : PUnit → Prog (TpuEff nD τ sig (Elt F) Λ₀ (.scVector ((i 0).castLE hcore0) ((i 1).castLE hsub0))) α} {Q : α → sProp 𝕄} :
    iprop(Fly (F := F) (d := d) (i := i) x l fx fl M sem q ql n ∗ ow d i O W)
      ⊢ iprop((iprop(Idle (F := F) (d := d) (i := i) x l fx fl M q ql (Good (x.view.read (Elt F) fx) (l.view.read (Elt F) fl) (64 * n))
              ∗ semVal (thr d i, SemLoc.dma sem) 0 ∗ ow d i O W) -∗ wpt d i (k ⟨⟩) Q)
          -∗ wpt d i (SparseCore.waitIndirectGather sem srcw M hsrc hdst >>= k) Q) := by
  unfold Fly
  iintro ⟨⟨%I, %hI, HF, Hlo⟩, HO⟩ Hk
  iapply (wpt_wait (F := F) (d := d) (i := i) O W (srcw := srcw) (dstw := M) (hsrc := hsrc) (hdst := hdst) (k := k) (Q := Q) rfl) $$ [HF HO]
  · isplitl [HF]; · iexact HF
    iexact HO
  iintro ⟨⟨HM, Hx, Hl⟩, Hs, HO⟩
  iapply Hk
  isplitl [HM Hx Hl Hlo]
  · unfold Idle
    isplitl [HM]; · iexact HM
    isplitl [Hx]; · iexact Hx
    iapply (pointsTo_split_subset hI).2
    isplitl [Hl]; · iexact Hl
    iexact Hlo
  isplitl [Hs]; · iexact Hs
  iexact HO

/-- The tile's block of the result, its first `n` windows written. -/
def Yown (b n : ℕ) : sProp 𝕄 :=
  iprop(∃ fy, ⌜Done (x.view.read (Elt F) fx) (l.view.read (Elt F) fl) b (64 * n) (y.view.read (Elt F) fy)⌝
    ∗ (y.view.loc (thr d i) ↦[y.view.setOn (blkIdx b)]{fullShare} fy))

theorem wpt_out {M : Memref sig .scVector .vmem S64x128 .f32} {sem : DmaSem sig} {q ql : PosShare TreeShare} {b n : ℕ} (hn : n < 128)
    {oY : Fin 2 → ℕ} {inb : ∀ a, oY a + S64x128.size a ≤ S262144x128.size a} (h0 : oY 0 = 8192 * b + 64 * n) (h1 : oY 1 = 0)
    {hst hst' : ∀ a, (Rect.unit (s := S262144x128) oY S64x128.size inb).stride a = 1}
    {hsrc hsrc' : M.view.WordExact} {hdst : (y.slice (Rect.unit (s := S262144x128) oY S64x128.size inb) hst).view.WordExact}
    {hdst' : (y.slice (Rect.unit (s := S262144x128) oY S64x128.size inb) hst').view.WordExact}
    {hsem : DmaTarget.Typed (nD := nD) (τ := τ) (p := .scVector ((i 0).castLE hcore0) ((i 1).castLE hsub0)) .vmem (.dma sem) (.here (y.slice (Rect.unit (s := S262144x128) oY S64x128.size inb) hst))} {α : Type}
    {k : PUnit → Prog (TpuEff nD τ sig (Elt F) Λ₀ (.scVector ((i 0).castLE hcore0) ((i 1).castLE hsub0))) α} {Q : α → sProp 𝕄} :
    iprop(Idle (F := F) (d := d) (i := i) x l fx fl M q ql (Good (x.view.read (Elt F) fx) (l.view.read (Elt F) fl) (64 * n))
        ∗ Yown (F := F) (d := d) (i := i) x l y fx fl b n ∗ semVal (thr d i, SemLoc.dma sem) 0 ∗ ow d i O W)
      ⊢ iprop((iprop(Idle (F := F) (d := d) (i := i) x l fx fl M q ql (fun _ => True) ∗ Yown (F := F) (d := d) (i := i) x l y fx fl b (n + 1)
              ∗ semVal (thr d i, SemLoc.dma sem) 0 ∗ ow d i O W) -∗ wpt d i (k ⟨⟩) Q)
          -∗ wpt d i (Prog.lift (.enqueueDma M (.here (y.slice (Rect.unit (s := S262144x128) oY S64x128.size inb) hst)) (.dma sem) hsrc hdst hsem)
              >>= fun _ => Prog.lift (.waitDma2 sem M (y.slice (Rect.unit (s := S262144x128) oY S64x128.size inb) hst') hsrc' hdst') >>= k) Q) := by
  unfold Idle Yown
  iintro ⟨⟨⟨%v, %hv, HM⟩, Hx, Hl⟩, ⟨%fy, %hy, HY⟩, Hs, HO⟩ Hk
  unfold own
  icases HM with ⟨%f, %hf, HM⟩
  have hsub : (y.slice (Rect.unit (s := S262144x128) oY S64x128.size inb) hst).view.set ⊆ y.view.setOn (blkIdx b) := by
    show (y.view.slice _).set ⊆ _
    rw [View.set_slice]
    refine Finset.map_subset_map.2 fun z hz => ?_
    have h := Rect.mem_set_unit.1 hz 0
    refine Finset.mem_filter.2 ⟨Finset.mem_univ _, ?_⟩
    rw [h0] at h
    have h2 : (z 0).val < 8192 * b + 64 * n + 64 := h.2
    have h3 : 8192 * b + 64 * n ≤ (z 0).val := h.1
    omega
  iapply (Transfers.wp_dmaLocal countersEmb (defs := defs₀ (F := F)) 𝒱₀ (thr d i) none (Q := Q) (src := M) (via := .same)
    (dst := y.slice (Rect.unit (s := S262144x128) oY S64x128.size inb) hst) (sm := .dma sem) (hsrc := hsrc) (hdst := hdst) (hsem := hsem)
    (k := fun _ => Prog.lift (.waitDma2 sem M (y.slice (Rect.unit (s := S262144x128) oY S64x128.size inb) hst') hsrc' hdst') >>= k)
    (q := fullShare) (fs := f) (Sd := y.view.setOn (blkIdx b)) (fd := fy) (default : HIx 1) _ rfl (View.dmaCredit_pos _ (by decide)) hsub) $$ [HM HY Hs]
  · isplitl [HM]; · iexact HM
    isplitl [HY]; · iexact HY
    iexact Hs
  iintro HF
  iapply (wpt_wait (F := F) (d := d) (i := i) O W (k := k) (Q := Q) rfl) $$ [HF HO]
  · isplitl [HF]; · iexact HF
    iexact HO
  iintro ⟨⟨HY, HM⟩, Hs, HO⟩
  iapply Hk
  isplitl [HM Hx Hl]
  · isplitl [HM]
    · iexists v
      isplitr; · ipureintro; trivial
      iexists f
      isplitr; · ipureintro; exact hf
      iexact HM
    isplitl [Hx]; · iexact Hx
    iexact Hl
  isplitl [HY]
  · iexists _
    isplitr
    rotate_left
    · iexact HY
    ipureintro
    refine hy.next (inb := inb) h0 h1 hv (fun j => ?_) fun u hu => ?_
    · refine (View.read_slice_write_emb (v := y.view) (Rect.unit (s := S262144x128) oY S64x128.size inb) fy _ (Finset.mem_univ j)).trans ?_
      rw [← hf]
    · refine View.read_slice_write_of_not_mem (v := y.view) (Rect.unit (s := S262144x128) oY S64x128.size inb) fy _ Finset.univ fun h => ?_
      obtain ⟨j, _, hj⟩ := Finset.mem_map.1 h
      exact hu j hj
  isplitl [Hs]; · iexact Hs
  iexact HO

/-- The last turn of a slot: its gather waited for, and the slot copied out. -/
theorem wpt_drain {M : Memref sig .scVector .vmem S64x128 .f32} {sem semY : DmaSem sig} {q ql : PosShare TreeShare} {b n m : ℕ} (hn : n < 128) (hm : m = n + 1)
    {oY : Fin 2 → ℕ} {inb : ∀ a, oY a + S64x128.size a ≤ S262144x128.size a} (h0 : oY 0 = 8192 * b + 64 * n) (h1 : oY 1 = 0)
    {hst hst' : ∀ a, (Rect.unit (s := S262144x128) oY S64x128.size inb).stride a = 1}
    {hsrc hsrc' : M.view.WordExact} {hdst : (y.slice (Rect.unit (s := S262144x128) oY S64x128.size inb) hst).view.WordExact}
    {hdst' : (y.slice (Rect.unit (s := S262144x128) oY S64x128.size inb) hst').view.WordExact}
    {hsem : DmaTarget.Typed (nD := nD) (τ := τ) (p := .scVector ((i 0).castLE hcore0) ((i 1).castLE hsub0)) .vmem (.dma semY) (.here (y.slice (Rect.unit (s := S262144x128) oY S64x128.size inb) hst))}
    {srcw : Memref sig .scVector .hbm S262144x128 .f32} {hsw : srcw.view.WordExact} {hdw : M.view.WordExact}
    {α : Type} {k : PUnit → Prog (TpuEff nD τ sig (Elt F) Λ₀ (.scVector ((i 0).castLE hcore0) ((i 1).castLE hsub0))) α} {Q : α → sProp 𝕄} :
    iprop(Fly (F := F) (d := d) (i := i) x l fx fl M sem q ql n
        ∗ Yown (F := F) (d := d) (i := i) x l y fx fl b n ∗ semVal (thr d i, SemLoc.dma semY) 0 ∗ ow d i O W)
      ⊢ iprop((iprop((Idle (F := F) (d := d) (i := i) x l fx fl M q ql (fun _ => True) ∗ semVal (thr d i, SemLoc.dma sem) 0 ∗ semVal (thr d i, SemLoc.dma semY) 0)
              ∗ Yown (F := F) (d := d) (i := i) x l y fx fl b m ∗ ow d i O W) -∗ wpt d i (k ⟨⟩) Q)
          -∗ wpt d i (SparseCore.waitIndirectGather sem srcw M hsw hdw
              >>= fun _ => Prog.lift (.enqueueDma M (.here (y.slice (Rect.unit (s := S262144x128) oY S64x128.size inb) hst)) (.dma semY) hsrc hdst hsem)
              >>= fun _ => Prog.lift (.waitDma2 semY M (y.slice (Rect.unit (s := S262144x128) oY S64x128.size inb) hst') hsrc' hdst') >>= k) Q) := by
  subst hm
  iintro ⟨HF, HY, Hs, HO⟩ Hk
  iapply (wpt_collect (F := F) (d := d) (i := i) O W x l fx fl) $$ [HF HO]
  · isplitl [HF]; · iexact HF
    iexact HO
  iintro ⟨HI, Hg, HO⟩
  iapply (wpt_out (F := F) (d := d) (i := i) O W x l y fx fl (n := n) hn h0 h1) $$ [HI HY Hs HO]
  · isplitl [HI]; · iexact HI
    isplitl [HY]; · iexact HY
    isplitl [Hs]; · iexact Hs
    iexact HO
  iintro ⟨HI, HY, Hs, HO⟩
  iapply Hk
  isplitl [HI Hg Hs]
  · isplitl [HI]; · iexact HI
    isplitl [Hg]; · iexact Hg
    iexact Hs
  isplitl [HY]; · iexact HY
  iexact HO

/-- A turn of a slot: its gather waited for, the slot copied out, and its next gather issued. -/
theorem wpt_turn {M : Memref sig .scVector .vmem S64x128 .f32} {sem semY : DmaSem sig} {q ql : PosShare TreeShare} {b n m n' : ℕ} (hn : n < 128) (hm : m = n + 1)
    {oY : Fin 2 → ℕ} {inb : ∀ a, oY a + S64x128.size a ≤ S262144x128.size a} (h0 : oY 0 = 8192 * b + 64 * n) (h1 : oY 1 = 0)
    {hst hst' : ∀ a, (Rect.unit (s := S262144x128) oY S64x128.size inb).stride a = 1}
    {hsrc hsrc' : M.view.WordExact} {hdst : (y.slice (Rect.unit (s := S262144x128) oY S64x128.size inb) hst).view.WordExact}
    {hdst' : (y.slice (Rect.unit (s := S262144x128) oY S64x128.size inb) hst').view.WordExact}
    {hsem : DmaTarget.Typed (nD := nD) (τ := τ) (p := .scVector ((i 0).castLE hcore0) ((i 1).castLE hsub0)) .vmem (.dma semY) (.here (y.slice (Rect.unit (s := S262144x128) oY S64x128.size inb) hst))}
    {srcw : Memref sig .scVector .hbm S262144x128 .f32} {hsw : srcw.view.WordExact} {hdw : M.view.WordExact}
    {oL : Fin 1 → ℕ} {inbL : ∀ a, oL a + S64.size a ≤ S8192.size a} (ho : oL 0 = 64 * n')
    {hst0 : ∀ a, (Rect.unit (s := S262144x128) ![0, 0] S262144x128.size inb_S262144x128_S262144x128_0_0).stride a = 1}
    {hst1 : ∀ a, (Rect.unit (s := S8192) oL S64.size inbL).stride a = 1}
    {hp : (Proc.scVector (τ := τ) ((i 0).castLE hcore0) ((i 1).castLE hsub0)).kind = .scVector}
    {hnn : S64.numel = S64x128.size gathers_S262144x128_S64x128.axis'}
    {hsrcx : (x.slice (Rect.unit (s := S262144x128) ![0, 0] S262144x128.size inb_S262144x128_S262144x128_0_0) hst0).view.WordExact}
    {he : EltTy.f32.bits = 32} {hsp : Space.hbm = .hbm ∨ Space.hbm = .shared} {hr : S262144x128.StreamRows 0}
    (hls : ∀ p, (l.view.read (Elt F) fl p : BitVec 32).toNat < 262144)
    {α : Type} {k : PUnit → Prog (TpuEff nD τ sig (Elt F) Λ₀ (.scVector ((i 0).castLE hcore0) ((i 1).castLE hsub0))) α} {Q : α → sProp 𝕄} :
    iprop((Fly (F := F) (d := d) (i := i) x l fx fl M sem q ql n ∗ semVal (thr d i, SemLoc.dma semY) 0)
        ∗ Yown (F := F) (d := d) (i := i) x l y fx fl b n ∗ ow d i O W)
      ⊢ iprop((iprop((Fly (F := F) (d := d) (i := i) x l fx fl M sem q ql n' ∗ semVal (thr d i, SemLoc.dma semY) 0)
              ∗ Yown (F := F) (d := d) (i := i) x l y fx fl b m ∗ ow d i O W) -∗ wpt d i (k ⟨⟩) Q)
          -∗ wpt d i (SparseCore.waitIndirectGather sem srcw M hsw hdw
              >>= fun _ => Prog.lift (.enqueueDma M (.here (y.slice (Rect.unit (s := S262144x128) oY S64x128.size inb) hst)) (.dma semY) hsrc hdst hsem)
              >>= fun _ => Prog.lift (.waitDma2 semY M (y.slice (Rect.unit (s := S262144x128) oY S64x128.size inb) hst') hsrc' hdst')
              >>= fun _ => SparseCore.enqueueIndirectGather hp (x.slice (Rect.unit (s := S262144x128) ![0, 0] S262144x128.size inb_S262144x128_S262144x128_0_0) hst0) M
                gathers_S262144x128_S64x128 (l.slice (Rect.unit (s := S8192) oL S64.size inbL) hst1) hnn sem hsrcx he hsp hr >>= k) Q) := by
  iintro ⟨⟨HF, Hs⟩, HY, HO⟩ Hk
  iapply (wpt_drain (F := F) (d := d) (i := i) O W x l y fx fl (n := n) hn hm h0 h1) $$ [HF HY Hs HO]
  · isplitl [HF]; · iexact HF
    isplitl [HY]; · iexact HY
    isplitl [Hs]; · iexact Hs
    iexact HO
  iintro ⟨⟨HI, Hg, Hs⟩, HY, HO⟩
  iapply (wpt_issue (F := F) (d := d) (i := i) x l fx fl (n := n') ho hls) $$ [HI Hg]
  · isplitl [HI]; · iexact HI
    iexact Hg
  iintro HF
  iapply Hk
  isplitl [HF Hs]
  · isplitl [HF]; · iexact HF
    iexact Hs
  isplitl [HY]; · iexact HY
  iexact HO

end Slots

end Cert.Sort
-- ==== Proof.Loops.lean ====
/-
  The eight loops of the sort in one tile, each over its buffers' contents: clearing the histograms, reading the row
  and counting its digits, the three running sums, and the three passes. Each trip is proved once at a symbolic trip
  number; the loop carries the contents through its invariant.
-/
module

public import proofs.«01_k».proof.Proof.Steps

@[expose] public section

noncomputable section

namespace Cert.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

section Trips

variable {d : Dev nD} {i : grid0.Coords}
variable (arg2 : Memref sig .scVector .hbm S262144x128 .f32) (harg2 : arg2.IsWhole) (arg3 : Memref sig .scVector .hbm S32x8192 .f32) (harg3 : arg3.IsWhole)
  (arg4 : Memref sig .scVector .hbm S262144x128 .f32) (harg4 : arg4.IsWhole) (arg5 : Memref sig .scVector .hbm S32x8192 .f32) (harg5 : arg5.IsWhole)
  (arg6 : Memref sig .scVector .vmem S8192 .i32) (harg6 : arg6.IsWhole) (arg7 : Memref sig .scVector .vmem S8192 .i32) (harg7 : arg7.IsWhole)
  (arg8 : Memref sig .scVector .vmem S8192 .i32) (harg8 : arg8.IsWhole) (arg9 : Memref sig .scVector .vmem S8192 .i32) (harg9 : arg9.IsWhole)
  (arg10 : Memref sig .scVector .vmem S5120 .i32) (harg10 : arg10.IsWhole) (arg11 : Memref sig .scVector .vmem S8192 .f32) (harg11 : arg11.IsWhole)
  (arg12 : Memref sig .scVector .vmem S8x64x128 .f32) (harg12 : arg12.IsWhole)
  (arg13 arg14 arg15 arg16 arg17 arg18 arg19 arg20 : DmaSems sig S_) (v100_r0 v100_r1 v237_r2 v237_r3 v237_r4 v237_r5 v237_r6 v237_r7 v237_r8 v237_r9 : DmaSems sig S_)
  (v100_r10 v100_r11 v100_r12 v100_r13 v100_r14 v100_r15 v100_r16 v100_r17 : DmaSems sig S_)

theorem trip1 (k : Fin k0_t1_loop.trips) (acc : BitVec 32) (v : Vec F S5120 .i32) (hv : ∀ x, pos x < 16 * k.val → v x = 0#32) :
    own d i arg10 v ⊢ wpt d i (k0_t1_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc)
      fun _ => iprop(∃ v', own d i arg10 v' ∗ ⌜∀ x, pos x < 16 * (k.val + 1) → v' x = 0#32⌝) := by
  unfold k0_t1_body
  dsimp only
  iintro H
  iapply wpt_load $$ H
  iintro %v0 %hv0 H
  iapply wpt_store $$ H
  iintro H
  iapply wpt_pure
  iexists _
  isplitl [H]
  · iexact H
  · ipureintro
    intro x hx
    have ho : k0_off2 k 0 = 16 * k.val := by rw [k0_off2_eq]; rfl
    rcases seg_cases x (k0_off2 k 0) with ⟨y, hy⟩ | hy
    · rw [put_at _ _ _ _ hy]; rfl
    · rw [put_out _ _ _ _ hy]; exact hv x (by omega)

theorem trip2 (k : Fin k0_t2_loop.trips) (acc : BitVec 32) (fit : Vec F S8192 .f32) (key idx : Vec F S8192 .i32) (h : Vec F S5120 .i32)
    (hk : ∀ x, pos x < 16 * k.val → key x = keys fit (pos x) ∧ idx x = BitVec.ofNat 32 (pos x)) (hh : Holds h (hst (keys fit) (16 * k.val))) :
    iprop(own d i arg11 fit ∗ own d i arg6 key ∗ own d i arg7 idx ∗ own d i arg10 h)
      ⊢ wpt d i (k0_t2_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc)
        fun _ => iprop(∃ key' idx' h', (own d i arg11 fit ∗ own d i arg6 key' ∗ own d i arg7 idx' ∗ own d i arg10 h')
          ∗ ⌜(∀ x, pos x < 16 * (k.val + 1) → key' x = keys fit (pos x) ∧ idx' x = BitVec.ofNat 32 (pos x)) ∧ Holds h' (hst (keys fit) (16 * (k.val + 1)))⌝) := by
  have ho : k0_off3 k 0 = 16 * k.val := by rw [k0_off3_eq]; rfl
  unfold k0_t2_body
  rw [k0_part1_eq_skeleton]
  unfold k0_part1_skel
  dsimp only
  simp only [bind_assoc]
  iintro ⟨Hf, Hk, Hi, Hh⟩
  iapply wpt_load $$ Hf
  iintro %v %hv Hf
  iapply wpt_load $$ Hk
  iintro %l0 %hl0 Hk
  iapply wpt_store $$ Hk
  iintro Hk
  iapply wpt_load $$ Hi
  iintro %l1 %hl1 Hi
  iapply wpt_store $$ Hi
  iintro Hi
  have hv' : ∀ x, enc (v x) = keys fit (16 * k.val + pos x) := fun x => (congrArg enc (hv x)).trans (key_of (k0_off3_inb k) ho x)
  generalize g1 : k0_pay3 v = t1
  generalize g2 : k0_pay4 v = t2
  generalize g3 : k0_pay5 v = t3
  have h1 : Digs (fun p => dg1 (keys fit p)) k.val t1 := fun x => by rw [← g1, pay3_eq, dg1_word, hv']
  have h2 : Digs (fun p => dg2 (keys fit p)) k.val t2 := fun x => by rw [← g2, pay4_eq, dg2_word, hv']
  have h3 : Digs (fun p => dg3 (keys fit p)) k.val t3 := fun x => by rw [← g3, pay5_eq, dg3_word, hv']
  have i1 := one_inb (n := 5120) fun x => (by rw [h1 x]; exact (dg1_lt _).trans (by decide) : (t1 x).toNat < 5120)
  have i2 := one_inb (n := 5120) fun x => (by rw [h2 x]; exact (dg2_lt _).2.trans (by decide) : (t2 x).toNat < 5120)
  have i3 := one_inb (n := 5120) fun x => (by rw [h3 x]; exact (dg3_lt _).2 : (t3 x).toNat < 5120)
  iapply (wpt_assume (P := k0_chk1 t1) i1)
  iapply (wpt_assume (P := k0_chk2 t2) i2)
  iapply (wpt_assume (P := k0_chk3 t3) i3)
  iapply wpt_storeIdx $$ Hh
  iintro Hh
  iapply wpt_storeIdx $$ Hh
  iintro Hh
  simp only [pure_bind]
  iapply wpt_storeIdx $$ Hh
  iintro Hh
  iapply wpt_pure
  iexists _, _, _
  isplitl [Hf Hk Hi Hh]
  · isplitl [Hf]; iexact Hf
    isplitl [Hk]; iexact Hk
    isplitl [Hi]; iexact Hi
    iexact Hh
  · ipureintro
    refine ⟨fun x hx => ?_, count_step hh h1 h2 h3 i1 i2 i3⟩
    rcases seg_cases (n := 8192) x (k0_off3 k 0) with ⟨y, hy⟩ | hy
    · rw [put_at _ _ _ _ hy, put_at _ _ _ _ hy, pay1_eq, hv', pay2_eq, hy, ho]
      exact ⟨rfl, rfl⟩
    · rw [put_out _ _ _ _ hy, put_out _ _ _ _ hy]
      exact hk x (by omega)

theorem trip3 (k : Fin k0_t3_loop.trips) (acc : BitVec 32) (H : ℕ → ℕ) (h : Vec F S5120 .i32) (hh : Holds h (part 0 H (16 * k.val)))
    (ha : acc = BitVec.ofNat 32 (∑ j ∈ Finset.Ico 0 (0 + 16 * k.val), H j)) :
    own d i arg10 h ⊢ wpt d i (k0_t3_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc)
      fun acc' => iprop(∃ h', own d i arg10 h' ∗ ⌜Holds h' (part 0 H (16 * (k.val + 1))) ∧ acc' = BitVec.ofNat 32 (∑ j ∈ Finset.Ico 0 (0 + 16 * (k.val + 1)), H j)⌝) := by
  have ho : k0_off4 k 0 = 0 + 16 * k.val := by rw [k0_off4_eq]; show _ = _; first | omega | (simp; omega) | simp
  unfold k0_t3_body
  dsimp only
  iintro H
  iapply wpt_load $$ H
  iintro %v %hv H
  iapply wpt_load $$ H
  iintro %v0 %hv0 H
  iapply wpt_store $$ H
  iintro H
  iapply wpt_pure
  iexists _
  isplitl [H]
  · iexact H
  · ipureintro
    have := seg_step (k0_off4_inb k) ho hh ha hv (pay16_eq acc v)
    rw [show 16 * k.val + 16 = 16 * (k.val + 1) by omega] at this
    exact ⟨this.1, (congrArg (acc + ·) (pay17_eq v)).trans this.2⟩

theorem trip4 (k : Fin k0_t4_loop.trips) (acc : BitVec 32) (H : ℕ → ℕ) (h : Vec F S5120 .i32) (hh : Holds h (part 2048 H (16 * k.val)))
    (ha : acc = BitVec.ofNat 32 (∑ j ∈ Finset.Ico 2048 (2048 + 16 * k.val), H j)) :
    own d i arg10 h ⊢ wpt d i (k0_t4_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc)
      fun acc' => iprop(∃ h', own d i arg10 h' ∗ ⌜Holds h' (part 2048 H (16 * (k.val + 1))) ∧ acc' = BitVec.ofNat 32 (∑ j ∈ Finset.Ico 2048 (2048 + 16 * (k.val + 1)), H j)⌝) := by
  have ho : k0_off5 k 0 = 2048 + 16 * k.val := by rw [k0_off5_eq]; show _ = _; first | omega | (simp; omega) | simp
  unfold k0_t4_body
  dsimp only
  iintro H
  iapply wpt_load $$ H
  iintro %v %hv H
  iapply wpt_load $$ H
  iintro %v0 %hv0 H
  iapply wpt_store $$ H
  iintro H
  iapply wpt_pure
  iexists _
  isplitl [H]
  · iexact H
  · ipureintro
    have := seg_step (k0_off5_inb k) ho hh ha hv (pay18_eq acc v)
    rw [show 16 * k.val + 16 = 16 * (k.val + 1) by omega] at this
    exact ⟨this.1, (congrArg (acc + ·) (pay19_eq v)).trans this.2⟩

theorem trip5 (k : Fin k0_t5_loop.trips) (acc : BitVec 32) (H : ℕ → ℕ) (h : Vec F S5120 .i32) (hh : Holds h (part 4096 H (16 * k.val)))
    (ha : acc = BitVec.ofNat 32 (∑ j ∈ Finset.Ico 4096 (4096 + 16 * k.val), H j)) :
    own d i arg10 h ⊢ wpt d i (k0_t5_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc)
      fun acc' => iprop(∃ h', own d i arg10 h' ∗ ⌜Holds h' (part 4096 H (16 * (k.val + 1))) ∧ acc' = BitVec.ofNat 32 (∑ j ∈ Finset.Ico 4096 (4096 + 16 * (k.val + 1)), H j)⌝) := by
  have ho : k0_off6 k 0 = 4096 + 16 * k.val := by rw [k0_off6_eq]; show _ = _; first | omega | (simp; omega) | simp
  unfold k0_t5_body
  dsimp only
  iintro H
  iapply wpt_load $$ H
  iintro %v %hv H
  iapply wpt_load $$ H
  iintro %v0 %hv0 H
  iapply wpt_store $$ H
  iintro H
  iapply wpt_pure
  iexists _
  isplitl [H]
  · iexact H
  · ipureintro
    have := seg_step (k0_off6_inb k) ho hh ha hv (pay20_eq acc v)
    rw [show 16 * k.val + 16 = 16 * (k.val + 1) by omega] at this
    exact ⟨this.1, (congrArg (acc + ·) (pay21_eq v)).trans this.2⟩

theorem trip6 (k : Fin k0_t6_loop.trips) (acc : BitVec 32) (T : ℕ → ℕ) (key idx k2 i2 : Vec F S8192 .i32) (h : Vec F S5120 .i32)
    (hp : Pass dg1 T key key idx k2 i2 h k.val) (hT : ∀ p, p < 8192 → T (dgOf dg1 key p) = below (dgOf dg1 key) (dgOf dg1 key p)) :
    iprop(own d i arg6 key ∗ own d i arg7 idx ∗ own d i arg8 k2 ∗ own d i arg9 i2 ∗ own d i arg10 h)
      ⊢ wpt d i (k0_t6_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc)
        fun _ => iprop(∃ k2' i2' h', (own d i arg6 key ∗ own d i arg7 idx ∗ own d i arg8 k2' ∗ own d i arg9 i2' ∗ own d i arg10 h')
          ∗ ⌜Pass dg1 T key key idx k2' i2' h' (k.val + 1)⌝) := by
  have ho : k0_off7 k 0 = 16 * k.val := by rw [k0_off7_eq]; rfl
  have hn : k.val < 512 := lt_of_lt_of_eq k.isLt (by decide)
  unfold k0_t6_body
  dsimp only
  iintro ⟨Hk, Hi, Hk2, Hi2, Hh⟩
  iapply wpt_load $$ Hk
  iintro %v %hv Hk
  iapply wpt_load $$ Hi
  iintro %u %hu Hi
  generalize ht0 : k0_pay22 v = t
  have ht : Digs (dgOf dg1 key) k.val t := digs_of (k0_off7_inb k) ho fun x => by rw [← ht0, ← hv]; exact dg1_word _
  have ht' := one_inb (n := 5120) fun x => (by rw [ht x]; exact dgOf_lt (fun w => (dg1_lt w).trans (by decide)) _ : (t x).toNat < 5120)
  iapply (wpt_assume (P := k0_chk4 t) ⟨ht', ht'⟩)
  iapply wpt_loadIdx $$ Hh
  iintro %l %hl Hh
  have hw : ∀ x, k0_pay26 t l x = (loadIdx (e := .i32) h ![t] ht' x : BitVec 32) + (scanCount (fun _ => 1) t).2 x - 1#32 := fun x => by rw [pay26_eq, hl]
  generalize k0_pay26 t l = w at hw
  have hi := hp.inb hn hT ht ht' hw
  iapply (wpt_assume (P := k0_chk5 w) ⟨hi, hi⟩)
  iapply wpt_storeIdx $$ Hk2
  iintro Hk2
  iapply wpt_storeIdx $$ Hi2
  iintro Hi2
  iapply wpt_storeIdx $$ Hh
  iintro Hh
  iapply wpt_pure
  iexists _, _, _
  isplitl [Hk Hi Hk2 Hi2 Hh]
  · isplitl [Hk]; iexact Hk
    isplitl [Hi]; iexact Hi
    isplitl [Hk2]; iexact Hk2
    isplitl [Hi2]; iexact Hi2
    iexact Hh
  · ipureintro
    exact hp.step hn hT ht ht' hw hi hi (fun x y hy => (hv x).trans (read_of (k0_off7_inb k) ho x y hy))
      (fun x y hy => (hu x).trans (read_of (k0_off7_inb k) ho x y hy))

theorem trip7 (v1 : BitVec 32) (k : Fin k0_t7_loop.trips) (acc : BitVec 32) (T : ℕ → ℕ) (key idx k2 i2 : Vec F S8192 .i32) (h : Vec F S5120 .i32)
    (hp : Pass dg2 T key key idx k2 i2 h k.val) (hT : ∀ p, p < 8192 → T (dgOf dg2 key p) = below (dgOf dg2 key) (dgOf dg2 key p)) :
    iprop(own d i arg8 key ∗ own d i arg9 idx ∗ own d i arg6 k2 ∗ own d i arg7 i2 ∗ own d i arg10 h)
      ⊢ wpt d i (k0_t7_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 v1 k acc)
        fun _ => iprop(∃ k2' i2' h', (own d i arg8 key ∗ own d i arg9 idx ∗ own d i arg6 k2' ∗ own d i arg7 i2' ∗ own d i arg10 h')
          ∗ ⌜Pass dg2 T key key idx k2' i2' h' (k.val + 1)⌝) := by
  have ho : k0_off8 k 0 = 16 * k.val := by rw [k0_off8_eq]; rfl
  have hn : k.val < 512 := lt_of_lt_of_eq k.isLt (by decide)
  unfold k0_t7_body
  dsimp only
  iintro ⟨Hk, Hi, Hk2, Hi2, Hh⟩
  iapply wpt_load $$ Hk
  iintro %v %hv Hk
  iapply wpt_load $$ Hi
  iintro %u %hu Hi
  generalize ht0 : k0_pay27 v = t
  have ht : Digs (dgOf dg2 key) k.val t := digs_of (k0_off8_inb k) ho fun x => by rw [← ht0, ← hv]; exact dg2_word _
  have ht' := one_inb (n := 5120) fun x => (by rw [ht x]; exact dgOf_lt (fun w => (dg2_lt w).2.trans (by decide)) _ : (t x).toNat < 5120)
  iapply (wpt_assume (P := k0_chk6 t) ⟨ht', ht'⟩)
  iapply wpt_loadIdx $$ Hh
  iintro %l %hl Hh
  have hw : ∀ x, k0_pay31 t l x = (loadIdx (e := .i32) h ![t] ht' x : BitVec 32) + (scanCount (fun _ => 1) t).2 x - 1#32 := fun x => by rw [pay31_eq, hl]
  generalize k0_pay31 t l = w at hw
  have hi := hp.inb hn hT ht ht' hw
  iapply (wpt_assume (P := k0_chk7 w) ⟨hi, hi⟩)
  iapply wpt_storeIdx $$ Hk2
  iintro Hk2
  iapply wpt_storeIdx $$ Hi2
  iintro Hi2
  iapply wpt_storeIdx $$ Hh
  iintro Hh
  iapply wpt_pure
  iexists _, _, _
  isplitl [Hk Hi Hk2 Hi2 Hh]
  · isplitl [Hk]; iexact Hk
    isplitl [Hi]; iexact Hi
    isplitl [Hk2]; iexact Hk2
    isplitl [Hi2]; iexact Hi2
    iexact Hh
  · ipureintro
    exact hp.step hn hT ht ht' hw hi hi (fun x y hy => (hv x).trans (read_of (k0_off8_inb k) ho x y hy))
      (fun x y hy => (hu x).trans (read_of (k0_off8_inb k) ho x y hy))

theorem trip8 (v1 : BitVec 32) (k : Fin k0_t8_loop.trips) (acc : BitVec 32) (T : ℕ → ℕ) (key idx i2 : Vec F S8192 .i32) (k2 : Vec F S8192 .f32) (h : Vec F S5120 .i32)
    (hp : Pass dg3 T key (fun x => dec (key x)) (fun x => (idx x : BitVec 32) + v1 * 8192#32) k2 i2 h k.val) (hT : ∀ p, p < 8192 → T (dgOf dg3 key p) = below (dgOf dg3 key) (dgOf dg3 key p)) :
    iprop(own d i arg6 key ∗ own d i arg7 idx ∗ own d i arg11 k2 ∗ own d i arg9 i2 ∗ own d i arg10 h)
      ⊢ wpt d i (k0_t8_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 v1 k acc)
        fun _ => iprop(∃ k2' i2' h', (own d i arg6 key ∗ own d i arg7 idx ∗ own d i arg11 k2' ∗ own d i arg9 i2' ∗ own d i arg10 h')
          ∗ ⌜Pass dg3 T key (fun x => dec (key x)) (fun x => (idx x : BitVec 32) + v1 * 8192#32) k2' i2' h' (k.val + 1)⌝) := by
  have ho : k0_off9 k 0 = 16 * k.val := by rw [k0_off9_eq]; rfl
  have hn : k.val < 512 := lt_of_lt_of_eq k.isLt (by decide)
  unfold k0_t8_body
  dsimp only
  iintro ⟨Hk, Hi, Hk2, Hi2, Hh⟩
  iapply wpt_load $$ Hk
  iintro %v %hv Hk
  iapply wpt_load $$ Hi
  iintro %u %hu Hi
  generalize ht0 : k0_pay32 v = t
  have ht : Digs (dgOf dg3 key) k.val t := digs_of (k0_off9_inb k) ho fun x => by rw [← ht0, ← hv]; exact dg3_word _
  have ht' := one_inb (n := 5120) fun x => (by rw [ht x]; exact dgOf_lt (fun w => (dg3_lt w).2) _ : (t x).toNat < 5120)
  iapply (wpt_assume (P := k0_chk8 t) ⟨ht', ht'⟩)
  iapply wpt_loadIdx $$ Hh
  iintro %l %hl Hh
  have hw : ∀ x, k0_pay36 t l x = (loadIdx (e := .i32) h ![t] ht' x : BitVec 32) + (scanCount (fun _ => 1) t).2 x - 1#32 := fun x => by rw [pay36_eq, hl]
  generalize k0_pay36 t l = w at hw
  have hi := hp.inb hn hT ht ht' hw
  iapply (wpt_assume (P := k0_chk9 w) ⟨hi, hi⟩)
  iapply wpt_storeIdx $$ Hk2
  iintro Hk2
  iapply wpt_storeIdx $$ Hi2
  iintro Hi2
  iapply wpt_storeIdx $$ Hh
  iintro Hh
  iapply wpt_pure
  iexists _, _, _
  isplitl [Hk Hi Hk2 Hi2 Hh]
  · isplitl [Hk]; iexact Hk
    isplitl [Hi]; iexact Hi
    isplitl [Hk2]; iexact Hk2
    isplitl [Hi2]; iexact Hi2
    iexact Hh
  · ipureintro
    refine hp.step hn hT ht ht' hw hi hi (fun x y hy => ?_) (fun x y hy => ?_)
    · rw [pay37_eq, hv]
      exact congrArg dec (read_of (e := .i32) (kv := key) (k0_off9_inb k) ho x y hy)
    · rw [pay38_eq, hu]
      exact congrArg (· + v1 * 8192#32) (read_of (e := .i32) (kv := idx) (k0_off9_inb k) ho x y hy)

end Trips

end Cert.Sort
-- ==== Proof.Sorted.lean ====
/-
  The whole sort of one tile's row: the eight loops one after another, each started from what the one before left. At
  the end the row's fitnesses and the numbers of its rows stand in the stable order of the keys.
-/
module

public import proofs.«01_k».proof.Proof.Loops

@[expose] public section

noncomputable section

namespace Cert.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

/-! ## What one loop hands the next -/

/-- The counters from `o` on are still the running sums. -/
def Tail (o : ℕ) (K : ℕ → BitVec 32) (T : ℕ → ℕ) : Prop := ∀ j, o ≤ j → T j = bases K j

/-- A pass starts each digit where the digits below it end. -/
theorem starts {lt : ℕ → ℕ → Prop} (hl : Lin lt 8192) {K : ℕ → BitVec 32} {key idx : Vec F S8192 .i32} (hp : Placed (F := F) lt K key idx)
    {dg : BitVec 32 → ℕ} {o : ℕ} (hb : ∀ p, bases K (dg (K p)) = below (fun p => dg (K p)) (dg (K p))) (ho : ∀ w, o ≤ dg w)
    {T : ℕ → ℕ} (hT : Tail o K T) : ∀ p, p < 8192 → T (dgOf dg key p) = below (dgOf dg key) (dgOf dg key p) := by
  intro p h
  obtain ⟨p0, h0, rfl⟩ := rk_surj hl h
  rw [hp.dgOf hl dg h0, hT _ (ho _), hb, hp.below hl dg]

/-- A pass leaves the later segments' counters alone. -/
theorem Tail.next {o o' : ℕ} {K : ℕ → BitVec 32} {T : ℕ → ℕ} (h : Tail o K T) (hoo : o ≤ o') {dg : BitVec 32 → ℕ} {key : Vec F S8192 .i32}
    (hd : ∀ w, dg w < o') (hpos : 0 < o') : Tail o' K fun j => T j + cnt (dgOf dg key) 8192 j := by
  intro j hj
  show T j + _ = _
  rw [cnt_none (d := j), Nat.add_zero, h j (le_trans hoo hj)]
  intro p
  unfold dgOf
  split
  · exact ne_of_lt (lt_of_lt_of_le (hd _) hj)
  · omega

section Loops

variable {d : Dev nD} {i : grid0.Coords}

/-- A loop at the head of the tile's program. -/
theorem wpt_loop {w : ℕ} {σ β : Type} (l : Scf.Loop w) {ok : l.OK} {init : σ}
    {body : Fin l.trips → σ → Prog (TpuEff nD τ sig (Elt F) Λ₀ (.scVector ((i 0).castLE hcore0) ((i 1).castLE hsub0))) σ}
    (I : ℕ → σ → sProp 𝕄) (hbody : ∀ (k : Fin l.trips) (acc : σ), I k.val acc ⊢ wpt d i (body k acc) (I (k.val + 1)))
    {n : ℕ} (hn : l.trips = n)
    {kk : σ → Prog (TpuEff nD τ sig (Elt F) Λ₀ (.scVector ((i 0).castLE hcore0) ((i 1).castLE hsub0))) β} {Q : β → sProp 𝕄} :
    I 0 init ⊢ iprop((∀ acc, I n acc -∗ wpt d i (kk acc) Q) -∗ wpt d i (Scf.Loop.for l ok init body >>= kk) Q) := by
  subst hn
  exact Scf.wp_for_bind frame (wpE (defs₀ (F := F)) 𝒱₀ (thr d i) none) Set.univ l.lb l.ub l.st ok init body I hbody

variable (arg2 : Memref sig .scVector .hbm S262144x128 .f32) (harg2 : arg2.IsWhole) (arg3 : Memref sig .scVector .hbm S32x8192 .f32) (harg3 : arg3.IsWhole)
  (arg4 : Memref sig .scVector .hbm S262144x128 .f32) (harg4 : arg4.IsWhole) (arg5 : Memref sig .scVector .hbm S32x8192 .f32) (harg5 : arg5.IsWhole)
  (arg6 : Memref sig .scVector .vmem S8192 .i32) (harg6 : arg6.IsWhole) (arg7 : Memref sig .scVector .vmem S8192 .i32) (harg7 : arg7.IsWhole)
  (arg8 : Memref sig .scVector .vmem S8192 .i32) (harg8 : arg8.IsWhole) (arg9 : Memref sig .scVector .vmem S8192 .i32) (harg9 : arg9.IsWhole)
  (arg10 : Memref sig .scVector .vmem S5120 .i32) (harg10 : arg10.IsWhole) (arg11 : Memref sig .scVector .vmem S8192 .f32) (harg11 : arg11.IsWhole)
  (arg12 : Memref sig .scVector .vmem S8x64x128 .f32) (harg12 : arg12.IsWhole)
  (arg13 arg14 arg15 arg16 arg17 arg18 arg19 arg20 : DmaSems sig S_) (v100_r0 v100_r1 v237_r2 v237_r3 v237_r4 v237_r5 v237_r6 v237_r7 v237_r8 v237_r9 : DmaSems sig S_)
  (v100_r10 v100_r11 v100_r12 v100_r13 v100_r14 v100_r15 v100_r16 v100_r17 : DmaSems sig S_)

theorem loop1 {α : Type} {kk : BitVec 32 → Prog (TpuEff nD τ sig (Elt F) Λ₀ (.scVector ((i 0).castLE hcore0) ((i 1).castLE hsub0))) α}
    {Q : α → sProp 𝕄} (v : Vec F S5120 .i32) :
    own d i arg10 v ⊢ iprop((∀ acc, (∃ h, own d i arg10 h ∗ ⌜∀ x, h x = 0#32⌝) -∗ wpt d i (kk acc) Q)
      -∗ wpt d i (Scf.Loop.for k0_t1_loop k0_t1_ok 0#32 (k0_t1_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17) >>= kk) Q) := by
  iintro H Hk
  iapply (wpt_loop (F := F) (d := d) (i := i) k0_t1_loop (ok := k0_t1_ok) (init := 0#32) (n := 320)
    (fun k _ => iprop(∃ v', own d i arg10 v' ∗ ⌜∀ x, pos x < 16 * k → v' x = 0#32⌝)) (fun k acc => ?_) (by decide)) $$ [H] [Hk]
  rotate_left
  · iexists v
    isplitl [H]; · iexact H
    ipureintro; intro x hx; omega
  · iintro %acc ⟨%h, H, %hh⟩
    iapply Hk $$ %acc
    iexists h
    isplitl [H]; · iexact H
    ipureintro
    exact fun x => hh x (by have := pos_lt x; omega)
  · iintro ⟨%v', H, %hv⟩
    iapply (trip1 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc v' hv) $$ H

theorem loop2 {α : Type} {kk : BitVec 32 → Prog (TpuEff nD τ sig (Elt F) Λ₀ (.scVector ((i 0).castLE hcore0) ((i 1).castLE hsub0))) α}
    {Q : α → sProp 𝕄} (fit : Vec F S8192 .f32) (key idx : Vec F S8192 .i32) (h : Vec F S5120 .i32) (hh : ∀ x, h x = 0#32) :
    iprop(own d i arg11 fit ∗ own d i arg6 key ∗ own d i arg7 idx ∗ own d i arg10 h)
      ⊢ iprop((∀ acc, (∃ key' idx' h', (own d i arg11 fit ∗ own d i arg6 key' ∗ own d i arg7 idx' ∗ own d i arg10 h')
          ∗ ⌜Placed (F := F) lt0 (keys fit) key' idx' ∧ Holds h' (hst (keys fit) 8192)⌝) -∗ wpt d i (kk acc) Q)
      -∗ wpt d i (Scf.Loop.for k0_t2_loop k0_t2_ok 0#32 (k0_t2_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17) >>= kk) Q) := by
  iintro H Hk
  iapply (wpt_loop (F := F) (d := d) (i := i) k0_t2_loop (ok := k0_t2_ok) (init := 0#32) (n := 512)
    (fun k _ => iprop(∃ key' idx' h', (own d i arg11 fit ∗ own d i arg6 key' ∗ own d i arg7 idx' ∗ own d i arg10 h')
          ∗ ⌜(∀ x, pos x < 16 * k → key' x = keys fit (pos x) ∧ idx' x = BitVec.ofNat 32 (pos x)) ∧ Holds h' (hst (keys fit) (16 * k))⌝))
    (fun k acc => ?_) (by decide)) $$ [H] [Hk]
  rotate_left
  · iexists key, idx, h
    isplitl [H]; · iexact H
    ipureintro
    refine ⟨fun x hx => by omega, fun x => ?_⟩
    rw [hh]
    unfold hst cnt
    simp
  · iintro %acc ⟨%key', %idx', %h', H, %hh⟩
    iapply Hk $$ %acc
    iexists key', idx', h'
    isplitl [H]; · iexact H
    ipureintro
    exact ⟨placed_zero (fun x => (hh.1 x (by have := pos_lt x; omega)).1) (fun x => (hh.1 x (by have := pos_lt x; omega)).2), hh.2⟩
  · iintro ⟨%key', %idx', %h', H, %hh⟩
    iapply (trip2 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc fit key' idx' h' hh.1 hh.2) $$ H

theorem loop3 {α : Type} {kk : BitVec 32 → Prog (TpuEff nD τ sig (Elt F) Λ₀ (.scVector ((i 0).castLE hcore0) ((i 1).castLE hsub0))) α}
    {Q : α → sProp 𝕄} (H : ℕ → ℕ) (h : Vec F S5120 .i32) (hh : Holds h H) :
    own d i arg10 h ⊢ iprop((∀ acc, (∃ h', own d i arg10 h' ∗ ⌜Holds h' (part 0 H 2048)⌝) -∗ wpt d i (kk acc) Q)
      -∗ wpt d i (Scf.Loop.for k0_t3_loop k0_t3_ok 0#32 (k0_t3_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17) >>= kk) Q) := by
  iintro H Hk
  iapply (wpt_loop (F := F) (d := d) (i := i) k0_t3_loop (ok := k0_t3_ok) (init := 0#32) (n := 128)
    (fun k acc => iprop(∃ h', own d i arg10 h' ∗ ⌜Holds h' (part 0 H (16 * k)) ∧ acc = BitVec.ofNat 32 (∑ j ∈ Finset.Ico 0 (0 + 16 * k), H j)⌝))
    (fun k acc => ?_) (by decide)) $$ [H] [Hk]
  rotate_left
  · iexists h
    isplitl [H]; · iexact H
    ipureintro
    refine ⟨?_, ?_⟩
    · rw [Nat.mul_zero, part_zero]; exact hh
    · rw [Nat.mul_zero, Nat.add_zero, Finset.Ico_self]; rfl
  · iintro %acc ⟨%h', H, %hh⟩
    iapply Hk $$ %acc
    iexists h'
    isplitl [H]; · iexact H
    ipureintro
    exact hh.1
  · iintro ⟨%h', H, %hh⟩
    iapply (trip3 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc H h' hh.1 hh.2) $$ H

theorem loop4 {α : Type} {kk : BitVec 32 → Prog (TpuEff nD τ sig (Elt F) Λ₀ (.scVector ((i 0).castLE hcore0) ((i 1).castLE hsub0))) α}
    {Q : α → sProp 𝕄} (H : ℕ → ℕ) (h : Vec F S5120 .i32) (hh : Holds h H) :
    own d i arg10 h ⊢ iprop((∀ acc, (∃ h', own d i arg10 h' ∗ ⌜Holds h' (part 2048 H 2048)⌝) -∗ wpt d i (kk acc) Q)
      -∗ wpt d i (Scf.Loop.for k0_t4_loop k0_t4_ok 0#32 (k0_t4_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17) >>= kk) Q) := by
  iintro H Hk
  iapply (wpt_loop (F := F) (d := d) (i := i) k0_t4_loop (ok := k0_t4_ok) (init := 0#32) (n := 128)
    (fun k acc => iprop(∃ h', own d i arg10 h' ∗ ⌜Holds h' (part 2048 H (16 * k)) ∧ acc = BitVec.ofNat 32 (∑ j ∈ Finset.Ico 2048 (2048 + 16 * k), H j)⌝))
    (fun k acc => ?_) (by decide)) $$ [H] [Hk]
  rotate_left
  · iexists h
    isplitl [H]; · iexact H
    ipureintro
    refine ⟨?_, ?_⟩
    · rw [Nat.mul_zero, part_zero]; exact hh
    · rw [Nat.mul_zero, Nat.add_zero, Finset.Ico_self]; rfl
  · iintro %acc ⟨%h', H, %hh⟩
    iapply Hk $$ %acc
    iexists h'
    isplitl [H]; · iexact H
    ipureintro
    exact hh.1
  · iintro ⟨%h', H, %hh⟩
    iapply (trip4 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc H h' hh.1 hh.2) $$ H

theorem loop5 {α : Type} {kk : BitVec 32 → Prog (TpuEff nD τ sig (Elt F) Λ₀ (.scVector ((i 0).castLE hcore0) ((i 1).castLE hsub0))) α}
    {Q : α → sProp 𝕄} (H : ℕ → ℕ) (h : Vec F S5120 .i32) (hh : Holds h H) :
    own d i arg10 h ⊢ iprop((∀ acc, (∃ h', own d i arg10 h' ∗ ⌜Holds h' (part 4096 H 1024)⌝) -∗ wpt d i (kk acc) Q)
      -∗ wpt d i (Scf.Loop.for k0_t5_loop k0_t5_ok 0#32 (k0_t5_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17) >>= kk) Q) := by
  iintro H Hk
  iapply (wpt_loop (F := F) (d := d) (i := i) k0_t5_loop (ok := k0_t5_ok) (init := 0#32) (n := 64)
    (fun k acc => iprop(∃ h', own d i arg10 h' ∗ ⌜Holds h' (part 4096 H (16 * k)) ∧ acc = BitVec.ofNat 32 (∑ j ∈ Finset.Ico 4096 (4096 + 16 * k), H j)⌝))
    (fun k acc => ?_) (by decide)) $$ [H] [Hk]
  rotate_left
  · iexists h
    isplitl [H]; · iexact H
    ipureintro
    refine ⟨?_, ?_⟩
    · rw [Nat.mul_zero, part_zero]; exact hh
    · rw [Nat.mul_zero, Nat.add_zero, Finset.Ico_self]; rfl
  · iintro %acc ⟨%h', H, %hh⟩
    iapply Hk $$ %acc
    iexists h'
    isplitl [H]; · iexact H
    ipureintro
    exact hh.1
  · iintro ⟨%h', H, %hh⟩
    iapply (trip5 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc H h' hh.1 hh.2) $$ H

theorem loop6 {α : Type} {kk : BitVec 32 → Prog (TpuEff nD τ sig (Elt F) Λ₀ (.scVector ((i 0).castLE hcore0) ((i 1).castLE hsub0))) α}
    {Q : α → sProp 𝕄} (K : ℕ → BitVec 32) (T : ℕ → ℕ) (key idx k2 i2 : Vec F S8192 .i32) (h : Vec F S5120 .i32)
    (hp : Placed (F := F) lt0 K key idx) (hh : Holds h T) (hT : Tail 0 K T) :
    iprop(own d i arg6 key ∗ own d i arg7 idx ∗ own d i arg8 k2 ∗ own d i arg9 i2 ∗ own d i arg10 h)
      ⊢ iprop((∀ acc, (∃ T' k2' i2' h', (own d i arg6 key ∗ own d i arg7 idx ∗ own d i arg8 k2' ∗ own d i arg9 i2' ∗ own d i arg10 h')
          ∗ ⌜Placed (F := F) (lt1 K) K k2' i2' ∧ Holds h' T' ∧ Tail 2048 K T'⌝) -∗ wpt d i (kk acc) Q)
      -∗ wpt d i (Scf.Loop.for k0_t6_loop k0_t6_ok 0#32 (k0_t6_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17) >>= kk) Q) := by
  have hs := starts lt0_lin hp (bases1 K) (o := 0) (fun w => by have := dg1_lt w; omega) hT
  iintro H Hk
  iapply (wpt_loop (F := F) (d := d) (i := i) k0_t6_loop (ok := k0_t6_ok) (init := 0#32) (n := 512)
    (fun k _ => iprop(∃ k2' i2' h', (own d i arg6 key ∗ own d i arg7 idx ∗ own d i arg8 k2' ∗ own d i arg9 i2' ∗ own d i arg10 h')
          ∗ ⌜Pass dg1 T key key idx k2' i2' h' k⌝))
    (fun k acc => ?_) (by decide)) $$ [H] [Hk]
  rotate_left
  · iexists k2, i2, h
    isplitl [H]; · iexact H
    ipureintro
    refine ⟨fun x => ?_, moved_zero _ _ _, moved_zero _ _ _⟩
    rw [hh]
    unfold cnt
    simp
  · iintro %acc ⟨%k2', %i2', %h', H, %hh⟩
    iapply Hk $$ %acc
    iexists (fun j => T j + cnt (dgOf dg1 key) 8192 j), k2', i2', h'
    isplitl [H]; · iexact H
    ipureintro
    exact ⟨hp.next lt0_lin dg1 hh.mvk hh.mvi, hh.hist, hT.next (by decide) (fun w => by have := dg1_lt w; omega) (by decide)⟩
  · iintro ⟨%k2', %i2', %h', H, %hh⟩
    iapply (trip6 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 k acc T key idx k2' i2' h' hh hs) $$ H

theorem loop7 {α : Type} {kk : BitVec 32 → Prog (TpuEff nD τ sig (Elt F) Λ₀ (.scVector ((i 0).castLE hcore0) ((i 1).castLE hsub0))) α}
    {Q : α → sProp 𝕄} (v1 : BitVec 32) (K : ℕ → BitVec 32) (T : ℕ → ℕ) (key idx k2 i2 : Vec F S8192 .i32) (h : Vec F S5120 .i32)
    (hp : Placed (F := F) (lt1 K) K key idx) (hh : Holds h T) (hT : Tail 2048 K T) :
    iprop(own d i arg8 key ∗ own d i arg9 idx ∗ own d i arg6 k2 ∗ own d i arg7 i2 ∗ own d i arg10 h)
      ⊢ iprop((∀ acc, (∃ T' k2' i2' h', (own d i arg8 key ∗ own d i arg9 idx ∗ own d i arg6 k2' ∗ own d i arg7 i2' ∗ own d i arg10 h')
          ∗ ⌜Placed (F := F) (lt2 K) K k2' i2' ∧ Holds h' T' ∧ Tail 4096 K T'⌝) -∗ wpt d i (kk acc) Q)
      -∗ wpt d i (Scf.Loop.for k0_t7_loop k0_t7_ok 0#32 (k0_t7_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 v1) >>= kk) Q) := by
  have hs := starts (lt1_lin K) hp (bases2 K) (o := 2048) (fun w => by have := dg2_lt w; omega) hT
  iintro H Hk
  iapply (wpt_loop (F := F) (d := d) (i := i) k0_t7_loop (ok := k0_t7_ok) (init := 0#32) (n := 512)
    (fun k _ => iprop(∃ k2' i2' h', (own d i arg8 key ∗ own d i arg9 idx ∗ own d i arg6 k2' ∗ own d i arg7 i2' ∗ own d i arg10 h')
          ∗ ⌜Pass dg2 T key key idx k2' i2' h' k⌝))
    (fun k acc => ?_) (by decide)) $$ [H] [Hk]
  rotate_left
  · iexists k2, i2, h
    isplitl [H]; · iexact H
    ipureintro
    refine ⟨fun x => ?_, moved_zero _ _ _, moved_zero _ _ _⟩
    rw [hh]
    unfold cnt
    simp
  · iintro %acc ⟨%k2', %i2', %h', H, %hh⟩
    iapply Hk $$ %acc
    iexists (fun j => T j + cnt (dgOf dg2 key) 8192 j), k2', i2', h'
    isplitl [H]; · iexact H
    ipureintro
    exact ⟨hp.next (lt1_lin K) dg2 hh.mvk hh.mvi, hh.hist, hT.next (by decide) (fun w => by have := dg2_lt w; omega) (by decide)⟩
  · iintro ⟨%k2', %i2', %h', H, %hh⟩
    iapply (trip7 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 v1 k acc T key idx k2' i2' h' hh hs) $$ H

theorem loop8 {α : Type} {kk : BitVec 32 → Prog (TpuEff nD τ sig (Elt F) Λ₀ (.scVector ((i 0).castLE hcore0) ((i 1).castLE hsub0))) α}
    {Q : α → sProp 𝕄} (v1 : BitVec 32) (K : ℕ → BitVec 32) (T : ℕ → ℕ) (key idx i2 : Vec F S8192 .i32) (k2 : Vec F S8192 .f32) (h : Vec F S5120 .i32)
    (hp : Placed (F := F) (lt2 K) K key idx) (hh : Holds h T) (hT : Tail 4096 K T) :
    iprop(own d i arg6 key ∗ own d i arg7 idx ∗ own d i arg11 k2 ∗ own d i arg9 i2 ∗ own d i arg10 h)
      ⊢ iprop((∀ acc, (∃ k2' i2' h', (own d i arg6 key ∗ own d i arg7 idx ∗ own d i arg11 k2' ∗ own d i arg9 i2' ∗ own d i arg10 h')
          ∗ ⌜∀ x : S8192.Idx, k2' x = dec (K (nth K (pos x))) ∧ i2' x = BitVec.ofNat 32 (nth K (pos x)) + v1 * 8192#32⌝) -∗ wpt d i (kk acc) Q)
      -∗ wpt d i (Scf.Loop.for k0_t8_loop k0_t8_ok 0#32 (k0_t8_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 v1) >>= kk) Q) := by
  have hs := starts (lt2_lin K) hp (bases3 K) (o := 4096) (fun w => by have := dg3_lt w; omega) hT
  iintro H Hk
  iapply (wpt_loop (F := F) (d := d) (i := i) k0_t8_loop (ok := k0_t8_ok) (init := 0#32) (n := 512)
    (fun k _ => iprop(∃ k2' i2' h', (own d i arg6 key ∗ own d i arg7 idx ∗ own d i arg11 k2' ∗ own d i arg9 i2' ∗ own d i arg10 h')
          ∗ ⌜Pass dg3 T key (fun x => dec (key x)) (fun x => (idx x : BitVec 32) + v1 * 8192#32) k2' i2' h' k⌝))
    (fun k acc => ?_) (by decide)) $$ [H] [Hk]
  rotate_left
  · iexists k2, i2, h
    isplitl [H]; · iexact H
    ipureintro
    refine ⟨fun x => ?_, moved_zero _ _ _, moved_zero _ _ _⟩
    rw [hh]
    unfold cnt
    simp
  · iintro %acc ⟨%k2', %i2', %h', H, %hh⟩
    iapply Hk $$ %acc
    iexists k2', i2', h'
    isplitl [H]; · iexact H
    ipureintro
    intro x
    have hn := nth_spec K (pos_lt x)
    exact hp.last (lt2_lin K) dg3 (e := .f32) (fun w => dec (F := F) w) (v1 * 8192#32) hh.mvk hh.mvi hn.1 x hn.2.symm
  · iintro ⟨%k2', %i2', %h', H, %hh⟩
    iapply (trip8 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 v1 k acc T key idx i2' k2' h' hh hs) $$ H

end Loops

end Cert.Sort
-- ==== Proof.Ring.lean ====
/-
  The ring of the gather phase: eight slots, each with a gather in flight, turned once per trip of the loop.
-/
module

public import proofs.«01_k».proof.Proof.Slots
public import proofs.«01_k».proof.Proof.Sorted

@[expose] public section

noncomputable section

namespace Cert.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

theorem slot_inb (s : Fin 8) : ∀ a, ![s.val, 0, 0] a + S1x64x128.size a ≤ S8x64x128.size a := by
  revert s; decide

/-- A slot of the staging buffer. -/
abbrev slotM (buf : Memref sig .scVector .vmem S8x64x128 .f32) (s : Fin 8) : Memref sig .scVector .vmem S64x128 .f32 :=
  (buf.slice (Rect.unit (s := S8x64x128) ![s.val, 0, 0] S1x64x128.size (slot_inb s)) (fun _ => rfl)).squeeze S64x128 squeezes_S1x64x128_S64x128

/-- One assertion of each slot. -/
abbrev ring (P : Fin 8 → sProp 𝕄) : sProp 𝕄 := iprop(P 0 ∗ P 1 ∗ P 2 ∗ P 3 ∗ P 4 ∗ P 5 ∗ P 6 ∗ P 7)

/-- The tile's number. -/
abbrev tileNo (i : grid0.Coords) : ℕ := 2 * (i 1).val + (i 0).val

theorem off11_row (i : grid0.Coords) (k : Fin k0_t9_loop.trips) (s : Fin 8) :
    k0_off11 i k (BitVec.ofNat 32 s.val) 0 = 8192 * tileNo i + 64 * (8 * k.val + s.val) :=
  (congrFun (k0_off11_eq i k s) 0).trans (show 16384 * (i 1).val + 8192 * (i 0).val + 512 * k.val + 64 * s.val = _ by unfold tileNo; omega)
theorem off11_col (i : grid0.Coords) (k : Fin k0_t9_loop.trips) (s : Fin 8) : k0_off11 i k (BitVec.ofNat 32 s.val) 1 = 0 :=
  congrFun (k0_off11_eq i k s) 1
theorem off12_at (k : Fin k0_t9_loop.trips) (s : Fin 8) : k0_off12 k (BitVec.ofNat 32 s.val) 0 = 64 * (8 * (k.val + 1) + s.val) :=
  (congrFun (k0_off12_eq k s) 0).trans (show 512 * k.val + 64 * s.val + 512 = _ by omega)
theorem off13_row (i : grid0.Coords) (s : Fin 8) : k0_off13 i (BitVec.ofNat 32 (7680 + 64 * s.val)) 0 = 8192 * tileNo i + 64 * (120 + s.val) :=
  (congrFun (k0_off13_eq i s) 0).trans (show 16384 * (i 1).val + 8192 * (i 0).val + 64 * s.val + 7680 = _ by unfold tileNo; omega)
theorem off13_col (i : grid0.Coords) (s : Fin 8) : k0_off13 i (BitVec.ofNat 32 (7680 + 64 * s.val)) 1 = 0 :=
  congrFun (k0_off13_eq i s) 1

section Ring

variable {d : Dev nD} {i : grid0.Coords}
variable (O : CellTallies nD τ sig (HIx 1)) (W : Waits sig (HIx 1))
variable (arg2 : Memref sig .scVector .hbm S262144x128 .f32) (harg2 : arg2.IsWhole) (arg3 : Memref sig .scVector .hbm S32x8192 .f32) (harg3 : arg3.IsWhole)
  (arg4 : Memref sig .scVector .hbm S262144x128 .f32) (harg4 : arg4.IsWhole) (arg5 : Memref sig .scVector .hbm S32x8192 .f32) (harg5 : arg5.IsWhole)
  (arg6 : Memref sig .scVector .vmem S8192 .i32) (harg6 : arg6.IsWhole) (arg7 : Memref sig .scVector .vmem S8192 .i32) (harg7 : arg7.IsWhole)
  (arg8 : Memref sig .scVector .vmem S8192 .i32) (harg8 : arg8.IsWhole) (arg9 : Memref sig .scVector .vmem S8192 .i32) (harg9 : arg9.IsWhole)
  (arg10 : Memref sig .scVector .vmem S5120 .i32) (harg10 : arg10.IsWhole) (arg11 : Memref sig .scVector .vmem S8192 .f32) (harg11 : arg11.IsWhole)
  (arg12 : Memref sig .scVector .vmem S8x64x128 .f32) (harg12 : arg12.IsWhole)
  (arg13 arg14 arg15 arg16 arg17 arg18 arg19 arg20 : DmaSems sig S_) (v100_r0 v100_r1 v237_r2 v237_r3 v237_r4 v237_r5 v237_r6 v237_r7 v237_r8 v237_r9 : DmaSems sig S_)
  (v100_r10 v100_r11 v100_r12 v100_r13 v100_r14 v100_r15 v100_r16 v100_r17 : DmaSems sig S_)
variable (fx : Buf (Elt F) (arg2.view.loc (thr d i))) (fl : Buf (Elt F) (arg9.view.loc (thr d i))) (q ql : Fin 8 → PosShare TreeShare)

/-- The ring before trip `k`: slot `s` has the gather of window `8k + s` in flight, and the first `8k` windows are out. -/
def Turning (k : ℕ) : sProp 𝕄 :=
  iprop(ring (fun s => iprop(Fly (F := F) (d := d) (i := i) arg2 arg9 fx fl (slotM arg12 s)
        (![arg13.sem, arg14.sem, arg15.sem, arg16.sem, arg17.sem, arg18.sem, arg19.sem, arg20.sem] s) (q s) (ql s) (8 * k + s.val)
      ∗ semVal (thr d i, SemLoc.dma (![v237_r2.sem, v237_r3.sem, v237_r4.sem, v237_r5.sem, v237_r6.sem, v237_r7.sem, v237_r8.sem, v237_r9.sem] s)) 0))
    ∗ Yown (F := F) (d := d) (i := i) arg2 arg9 arg4 fx fl (tileNo i) (8 * k) ∗ ow d i O W)

theorem trip9 (hls : ∀ p, (arg9.view.read (Elt F) fl p : BitVec 32).toNat < 262144) (v1 c0 c1 c15 : BitVec 32) (k : Fin k0_t9_loop.trips) (acc : BitVec 32) :
    Turning (F := F) (d := d) (i := i) O W arg2 arg4 arg9 arg12 arg13 arg14 arg15 arg16 arg17 arg18 arg19 arg20 v237_r2 v237_r3 v237_r4 v237_r5 v237_r6 v237_r7 v237_r8 v237_r9 fx fl q ql k.val
      ⊢ wpt d i (k0_t9_body i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 v1 c0 c1 c15 k acc)
        fun _ => Turning (F := F) (d := d) (i := i) O W arg2 arg4 arg9 arg12 arg13 arg14 arg15 arg16 arg17 arg18 arg19 arg20 v237_r2 v237_r3 v237_r4 v237_r5 v237_r6 v237_r7 v237_r8 v237_r9 fx fl q ql (k.val + 1) := by
  have hk : k.val < 15 := lt_of_lt_of_eq k.isLt (by decide)
  unfold k0_t9_body
  rw [k0_part2_eq_skeleton, k0_part3_eq_skeleton, k0_part4_eq_skeleton, k0_part5_eq_skeleton, k0_part6_eq_skeleton, k0_part7_eq_skeleton,
    k0_part8_eq_skeleton, k0_part9_eq_skeleton]
  unfold k0_part2_skel k0_part3_skel k0_part4_skel k0_part5_skel k0_part6_skel k0_part7_skel k0_part8_skel k0_part9_skel
  dsimp only
  simp only [bind_assoc, pure_bind]
  unfold Turning
  iintro ⟨⟨H0, H1, H2, H3, H4, H5, H6, H7⟩, HY, HO⟩
  iapply (wpt_turn (F := F) (d := d) (i := i) O W arg2 arg9 arg4 fx fl (n := 8 * k.val + 0) (m := 8 * k.val + 1) (by omega) rfl (off11_row i k 0)
    (off11_col i k 0) (off12_at k 0) hls) $$ [H0 HY HO]
  · isplitl [H0]; · iexact H0
    isplitl [HY]; · iexact HY
    iexact HO
  iintro ⟨H0, HY, HO⟩
  iapply (wpt_turn (F := F) (d := d) (i := i) O W arg2 arg9 arg4 fx fl (n := 8 * k.val + 1) (m := 8 * k.val + 2) (by omega) rfl (off11_row i k 1)
    (off11_col i k 1) (off12_at k 1) hls) $$ [H1 HY HO]
  · isplitl [H1]; · iexact H1
    isplitl [HY]; · iexact HY
    iexact HO
  iintro ⟨H1, HY, HO⟩
  iapply (wpt_turn (F := F) (d := d) (i := i) O W arg2 arg9 arg4 fx fl (n := 8 * k.val + 2) (m := 8 * k.val + 3) (by omega) rfl (off11_row i k 2)
    (off11_col i k 2) (off12_at k 2) hls) $$ [H2 HY HO]
  · isplitl [H2]; · iexact H2
    isplitl [HY]; · iexact HY
    iexact HO
  iintro ⟨H2, HY, HO⟩
  iapply (wpt_turn (F := F) (d := d) (i := i) O W arg2 arg9 arg4 fx fl (n := 8 * k.val + 3) (m := 8 * k.val + 4) (by omega) rfl (off11_row i k 3)
    (off11_col i k 3) (off12_at k 3) hls) $$ [H3 HY HO]
  · isplitl [H3]; · iexact H3
    isplitl [HY]; · iexact HY
    iexact HO
  iintro ⟨H3, HY, HO⟩
  iapply (wpt_turn (F := F) (d := d) (i := i) O W arg2 arg9 arg4 fx fl (n := 8 * k.val + 4) (m := 8 * k.val + 5) (by omega) rfl (off11_row i k 4)
    (off11_col i k 4) (off12_at k 4) hls) $$ [H4 HY HO]
  · isplitl [H4]; · iexact H4
    isplitl [HY]; · iexact HY
    iexact HO
  iintro ⟨H4, HY, HO⟩
  iapply (wpt_turn (F := F) (d := d) (i := i) O W arg2 arg9 arg4 fx fl (n := 8 * k.val + 5) (m := 8 * k.val + 6) (by omega) rfl (off11_row i k 5)
    (off11_col i k 5) (off12_at k 5) hls) $$ [H5 HY HO]
  · isplitl [H5]; · iexact H5
    isplitl [HY]; · iexact HY
    iexact HO
  iintro ⟨H5, HY, HO⟩
  iapply (wpt_turn (F := F) (d := d) (i := i) O W arg2 arg9 arg4 fx fl (n := 8 * k.val + 6) (m := 8 * k.val + 7) (by omega) rfl (off11_row i k 6)
    (off11_col i k 6) (off12_at k 6) hls) $$ [H6 HY HO]
  · isplitl [H6]; · iexact H6
    isplitl [HY]; · iexact HY
    iexact HO
  iintro ⟨H6, HY, HO⟩
  iapply (wpt_turn (F := F) (d := d) (i := i) O W arg2 arg9 arg4 fx fl (n := 8 * k.val + 7) (m := 8 * k.val + 8) (by omega) rfl (off11_row i k 7)
    (off11_col i k 7) (off12_at k 7) hls) $$ [H7 HY HO]
  · isplitl [H7]; · iexact H7
    isplitl [HY]; · iexact HY
    iexact HO
  iintro ⟨H7, HY, HO⟩
  iapply wpt_pure
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HY]; · iexact HY
  iexact HO

end Ring

end Cert.Sort
-- ==== Proof.Tile.lean ====
/-
  The tile's whole task: the row's fitnesses copied in, sorted, and copied out; then the rows of `x` gathered in the
  sorted order through the eight slots and copied out.
-/
module

public import proofs.«01_k».proof.Proof.Ring

@[expose] public section

noncomputable section

namespace Cert.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

theorem bigSep_ring (P : Fin 8 → sProp 𝕄) : bigSep Finset.univ P = ring P := by
  rw [bigSep_univ_succ, bigSep_univ_succ, bigSep_univ_succ, bigSep_univ_succ, bigSep_univ_succ, bigSep_univ_succ, bigSep_univ_succ,
    bigSep_univ_of_subsingleton (0 : Fin 1)]
  rfl

/-- A row of a matrix of 32 rows. -/
abbrev rowM (M : Memref sig .scVector .hbm S32x8192 .f32) (i : grid0.Coords) : Memref sig .scVector .hbm S8192 .f32 :=
  (M.slice (Rect.unit (s := S32x8192) (k0_off1 i) S1x8192.size (k0_off1_inb i)) (fun _ => rfl)).squeeze S8192 squeezes_S1x8192_S8192

section Copy

variable {d : Dev nD} {i : grid0.Coords}
variable (O : CellTallies nD τ sig (HIx 1)) (W : Waits sig (HIx 1))

/-- The full share of a memref's elements, whatever they hold. -/
def scr (d : Dev nD) (i : grid0.Coords) {sp : Space} {s : Shape} {e : EltTy} (M : Memref sig .scVector sp s e) (P : Vec F s e → Prop) : sProp 𝕄 :=
  iprop(∃ f, ⌜P (M.view.read (Elt F) f)⌝ ∗ (M.view.loc (thr d i) ↦[M.view.set]{fullShare} f))

theorem scr_own {s : Shape} {e : EltTy} (M : Memref sig .scVector .vmem s e) (P : Vec F s e → Prop) :
    scr (F := F) d i M P ⊢ iprop(∃ v, ⌜P v⌝ ∗ own (F := F) d i M v) := by
  unfold scr
  iintro ⟨%f, %hf, H⟩
  iexists (M.view.read (Elt F) f)
  isplitr; · ipureintro; exact hf
  iapply own_intro $$ H

theorem own_scr {s : Shape} {e : EltTy} {M : Memref sig .scVector .vmem s e} {P : Vec F s e → Prop} {v : Vec F s e} (h : P v) :
    own (F := F) d i M v ⊢ scr (F := F) d i M P := by
  unfold scr own
  iintro ⟨%f, %hf, H⟩
  iexists f
  isplitr; · ipureintro; rw [hf]; exact h
  iexact H

theorem own_raw {s : Shape} {e : EltTy} (M : Memref sig .scVector .vmem s e) {v : Vec F s e} :
    own (F := F) d i M v ⊢ iprop(∃ f, ⌜M.view.read (Elt F) f = v⌝ ∗ (M.view.loc (thr d i) ↦[M.view.set]{fullShare} f)) := by
  unfold own
  iintro H
  iexact H

/-- A copy of the tile's own, enqueued and waited for. -/
theorem wpt_copy {sp sp' : Space} {s : Shape} {e : EltTy} {src : Memref sig .scVector sp s e} {dst dst' : Memref sig .scVector sp' s e} {sem : DmaSem sig}
    {srcw : Memref sig .scVector sp s e} (hpos : 0 < dst.view.dmaCredit) (hd : dst'.view.dmaCredit = dst.view.dmaCredit)
    {hsrc : src.view.WordExact} {hdst : dst.view.WordExact} {hsw : srcw.view.WordExact} {hdw : dst'.view.WordExact}
    {hsem : DmaTarget.Typed (nD := nD) (τ := τ) (p := .scVector ((i 0).castLE hcore0) ((i 1).castLE hsub0)) sp (.dma sem) (.here dst)}
    {q : PosShare TreeShare} {fs : Buf (Elt F) (src.view.loc (thr d i))} {α : Type}
    {k : PUnit → Prog (TpuEff nD τ sig (Elt F) Λ₀ (.scVector ((i 0).castLE hcore0) ((i 1).castLE hsub0))) α} {Q : α → sProp 𝕄} :
    iprop((src.view.loc (thr d i) ↦[src.view.set]{q} fs) ∗ scr (F := F) d i dst (fun _ => True) ∗ semVal (thr d i, SemLoc.dma sem) 0 ∗ ow d i O W)
      ⊢ iprop((iprop((src.view.loc (thr d i) ↦[src.view.set]{q} fs) ∗ scr (F := F) d i dst (fun v => v = src.view.read (Elt F) fs)
              ∗ semVal (thr d i, SemLoc.dma sem) 0 ∗ ow d i O W) -∗ wpt d i (k ⟨⟩) Q)
          -∗ wpt d i (Prog.lift (.enqueueDma src (.here dst) (.dma sem) hsrc hdst hsem) >>= fun _ => Prog.lift (.waitDma2 sem srcw dst' hsw hdw) >>= k) Q) := by
  unfold scr
  iintro ⟨HS, ⟨%f, %_, HD⟩, Hs, HO⟩ Hk
  iapply (Transfers.wp_dmaLocal countersEmb (defs := defs₀ (F := F)) 𝒱₀ (thr d i) none (Q := Q) (src := src) (via := .same) (dst := dst) (sm := .dma sem)
    (hsrc := hsrc) (hdst := hdst) (hsem := hsem) (k := fun _ => Prog.lift (.waitDma2 sem srcw dst' hsw hdw) >>= k)
    (q := q) (fs := fs) (Sd := dst.view.set) (fd := f) (default : HIx 1) _ rfl hpos (Finset.Subset.refl _)) $$ [HS HD Hs]
  · isplitl [HS]; · iexact HS
    isplitl [HD]; · iexact HD
    iexact Hs
  iintro HF
  iapply (wpt_wait (F := F) (d := d) (i := i) O W (k := k) (Q := Q) hd) $$ [HF HO]
  · isplitl [HF]; · iexact HF
    iexact HO
  iintro ⟨⟨HD, HS⟩, Hs, HO⟩
  iapply Hk
  isplitl [HS]; · iexact HS
  isplitl [HD]
  · iexists _
    isplitr
    rotate_left
    · iexact HD
    ipureintro
    exact View.read_write_univ ..
  isplitl [Hs]; · iexact Hs
  iexact HO

end Copy

section Buf

variable {d : Dev nD} {i : grid0.Coords} (buf : Memref sig .scVector .vmem S8x64x128 .f32)

theorem slot_set (s : Fin 8) : (slotM buf s).view.set = buf.view.setOn (Finset.univ.filter fun z => (z 0).val = s.val) := by
  show ((buf.view.slice _).reshape _ _).set = _
  rw [View.set_reshape, View.set_slice]
  refine congrArg (Finset.map buf.view.emb) (Finset.ext fun z => ?_)
  rw [Rect.mem_set_unit, Finset.mem_filter]
  constructor
  · intro h
    have h1 : s.val ≤ (z 0).val := (h 0).1
    have h2 : (z 0).val < s.val + 1 := (h 0).2
    exact ⟨Finset.mem_univ _, by omega⟩
  · rintro ⟨_, h⟩ a
    have h1 : (z 1).val < 64 := (z 1).isLt
    have h2 : (z 2).val < 128 := (z 2).isLt
    fin_cases a
    · exact ⟨show s.val ≤ (z 0).val by omega, show (z 0).val < s.val + 1 by omega⟩
    · exact ⟨Nat.zero_le _, show (z 1).val < 0 + 64 by omega⟩
    · exact ⟨Nat.zero_le _, show (z 2).val < 0 + 128 by omega⟩

theorem slots_union : (Finset.univ.biUnion fun s : Fin 8 => (slotM buf s).view.set) = buf.view.set := by
  refine Finset.ext fun e => ?_
  rw [Finset.mem_biUnion]
  constructor
  · rintro ⟨s, _, h⟩
    rw [slot_set] at h
    exact View.setOn_subset_set _ _ h
  · intro h
    obtain ⟨z, _, rfl⟩ := Finset.mem_map.1 h
    refine ⟨⟨(z 0).val, (z 0).isLt⟩, Finset.mem_univ _, ?_⟩
    rw [slot_set]
    exact Finset.mem_map_of_mem _ (Finset.mem_filter.2 ⟨Finset.mem_univ _, rfl⟩)

theorem slots_disjoint : ∀ t ∈ (Finset.univ : Finset (Fin 8)), ∀ t' ∈ (Finset.univ : Finset (Fin 8)), t ≠ t' →
    Disjoint (slotM buf t).view.set (slotM buf t').view.set := by
  intro t _ t' _ hne
  rw [slot_set, slot_set]
  refine Finset.disjoint_map _ |>.2 (Finset.disjoint_left.2 fun z h h' => hne (Fin.ext ?_))
  rw [← (Finset.mem_filter.1 h).2, (Finset.mem_filter.1 h').2]

theorem scr_slots : scr (F := F) d i buf (fun _ => True) ⊢ ring (fun s => iprop(∃ v, ⌜True⌝ ∗ own (F := F) d i (slotM buf s) v)) := by
  have h (f : Buf (Elt F) (buf.view.loc (thr d i))) : (buf.view.loc (thr d i) ↦[buf.view.set]{fullShare} f : sProp 𝕄)
      ⊢ ring (fun s => iprop(∃ v, ⌜True⌝ ∗ own (F := F) d i (slotM buf s) v)) := by
    rw [← bigSep_ring, ← slots_union buf, pointsTo_biUnion _ _ (slots_disjoint buf)]
    refine bigSep_mono fun s _ => ?_
    show (((slotM buf s).view.loc (thr d i) ↦[(slotM buf s).view.set]{fullShare} f) : sProp 𝕄) ⊢ iprop(∃ v, ⌜True⌝ ∗ own (F := F) d i (slotM buf s) v)
    iintro H
    iexists ((slotM buf s).view.read (Elt F) f)
    isplitr; · ipureintro; trivial
    iapply own_intro (M := slotM buf s) $$ H
  unfold scr
  iintro ⟨%f, %_, H⟩
  iapply (h f) $$ H

theorem slots_scr : ring (fun s => iprop(∃ v, ⌜True⌝ ∗ own (F := F) d i (slotM buf s) v)) ⊢ scr (F := F) d i buf (fun _ => True) := by
  rw [← bigSep_ring]
  refine (bigSep_mono (Ψ := fun s : Fin 8 => iprop(∃ f : Buf (Elt F) (buf.view.loc (thr d i)), (buf.view.loc (thr d i) ↦[(slotM buf s).view.set]{fullShare} f))) fun s _ => ?_).trans ?_
  · show iprop(∃ v, ⌜True⌝ ∗ own (F := F) d i (slotM buf s) v) ⊢ (iprop(∃ f : Buf (Elt F) (buf.view.loc (thr d i)), (buf.view.loc (thr d i) ↦[(slotM buf s).view.set]{fullShare} f)) : sProp 𝕄)
    unfold own
    iintro ⟨%v, %_, %f, %_, H⟩
    iexists f
    iexact H
  refine (bigSep_exists_pi Finset.univ (fun (s : Fin 8) (f : Buf (Elt F) (buf.view.loc (thr d i))) => (buf.view.loc (thr d i) ↦[(slotM buf s).view.set]{fullShare} f : sProp 𝕄))).trans ?_
  unfold scr
  iintro ⟨%fs, H⟩
  icases (pointsTo_biUnion_join Finset.univ (fun s : Fin 8 => (slotM buf s).view.set) fs (fs 0) (slots_disjoint buf)) $$ H with ⟨%g, %_, H⟩
  iexists g
  isplitr; · ipureintro; trivial
  rw [← slots_union buf]
  iexact H

end Buf

section Tile

variable {d : Dev nD} {i : grid0.Coords}
variable (O : CellTallies nD τ sig (HIx 1)) (W : Waits sig (HIx 1))
variable (arg2 : Memref sig .scVector .hbm S262144x128 .f32) (harg2 : arg2.IsWhole) (arg3 : Memref sig .scVector .hbm S32x8192 .f32) (harg3 : arg3.IsWhole)
  (arg4 : Memref sig .scVector .hbm S262144x128 .f32) (harg4 : arg4.IsWhole) (arg5 : Memref sig .scVector .hbm S32x8192 .f32) (harg5 : arg5.IsWhole)
  (arg6 : Memref sig .scVector .vmem S8192 .i32) (harg6 : arg6.IsWhole) (arg7 : Memref sig .scVector .vmem S8192 .i32) (harg7 : arg7.IsWhole)
  (arg8 : Memref sig .scVector .vmem S8192 .i32) (harg8 : arg8.IsWhole) (arg9 : Memref sig .scVector .vmem S8192 .i32) (harg9 : arg9.IsWhole)
  (arg10 : Memref sig .scVector .vmem S5120 .i32) (harg10 : arg10.IsWhole) (arg11 : Memref sig .scVector .vmem S8192 .f32) (harg11 : arg11.IsWhole)
  (arg12 : Memref sig .scVector .vmem S8x64x128 .f32) (harg12 : arg12.IsWhole)
  (arg13 arg14 arg15 arg16 arg17 arg18 arg19 arg20 : DmaSems sig S_) (v100_r0 v100_r1 v237_r2 v237_r3 v237_r4 v237_r5 v237_r6 v237_r7 v237_r8 v237_r9 : DmaSems sig S_)
  (v100_r10 v100_r11 v100_r12 v100_r13 v100_r14 v100_r15 v100_r16 v100_r17 : DmaSems sig S_)
variable (q q3 : PosShare TreeShare) (fx : Buf (Elt F) (arg2.view.loc (thr d i))) (f3 : Buf (Elt F) (arg3.view.loc (thr d i)))

/-- The keys of the tile's row. -/
abbrev rowKeys (i : grid0.Coords) (d : Dev nD) (arg3 : Memref sig .scVector .hbm S32x8192 .f32) (f3 : Buf (Elt F) (arg3.view.loc (thr d i))) : ℕ → BitVec 32 :=
  keys ((rowM arg3 i).view.read (Elt F) f3)

/-- The rows of `x` in the order of the keys `K`, in the tile's block of the result. -/
def YOk (K : ℕ → BitVec 32) (b : ℕ) (xs w : Vec F S262144x128 .f32) : Prop :=
  ∀ (u z : S262144x128.Idx) (r : ℕ), r < 8192 → (u 0).val = 8192 * b + r → (z 0).val = 8192 * b + nth K r → (z 1).val = (u 1).val → w u = xs z

/-- The fitnesses in the order of their keys `K`. -/
def FOk (K : ℕ → BitVec 32) (v : Vec F S8192 .f32) : Prop := ∀ x, v x = dec (K (nth K (pos x)))

/-- The tile's memory, with what is known of its two results. -/
def Mem (PY : Vec F S262144x128 .f32 → Prop) (PF : Vec F S8192 .f32 → Prop) : sProp 𝕄 :=
  iprop((arg2.view.loc (thr d i) ↦[arg2.view.set]{q} fx)
    ∗ (arg3.view.loc (thr d i) ↦[(rowM arg3 i).view.set]{q3} f3)
    ∗ (∃ fy, ⌜PY (arg4.view.read (Elt F) fy)⌝ ∗ (arg4.view.loc (thr d i) ↦[arg4.view.setOn (blkIdx (tileNo i))]{fullShare} fy))
    ∗ scr (F := F) d i (rowM arg5 i) PF
    ∗ (scr (F := F) d i arg6 (fun _ => True) ∗ scr (F := F) d i arg7 (fun _ => True) ∗ scr (F := F) d i arg8 (fun _ => True) ∗ scr (F := F) d i arg9 (fun _ => True)
      ∗ scr (F := F) d i arg10 (fun _ => True) ∗ scr (F := F) d i arg11 (fun _ => True) ∗ scr (F := F) d i arg12 (fun _ => True))
    ∗ (semVal (thr d i, SemLoc.dma v100_r0.sem) 0 ∗ semVal (thr d i, SemLoc.dma v100_r1.sem) 0
      ∗ ring (fun s => semVal (thr d i, SemLoc.dma (![arg13.sem, arg14.sem, arg15.sem, arg16.sem, arg17.sem, arg18.sem, arg19.sem, arg20.sem] s)) 0)
      ∗ ring (fun s => semVal (thr d i, SemLoc.dma (![v237_r2.sem, v237_r3.sem, v237_r4.sem, v237_r5.sem, v237_r6.sem, v237_r7.sem, v237_r8.sem, v237_r9.sem] s)) 0)
      ∗ ring (fun s => semVal (thr d i, SemLoc.dma (![v100_r10.sem, v100_r11.sem, v100_r12.sem, v100_r13.sem, v100_r14.sem, v100_r15.sem, v100_r16.sem, v100_r17.sem] s)) 0))
    ∗ ow d i O W)

theorem tile_v1 (i : grid0.Coords) : (Scalar.addi (Scalar.muli (BitVec.ofNat 32 (i 1).val) 2#32) (BitVec.ofNat 32 (i 0).val) : BitVec 32) = BitVec.ofNat 32 (tileNo i) := by
  have h0 : (i 0).val < 2 := (i 0).isLt
  have h1 : (i 1).val < 16 := (i 1).isLt
  show (BitVec.ofNat 32 (i 1).val * 2#32 + BitVec.ofNat 32 (i 0).val : BitVec 32) = _
  apply BitVec.eq_of_toNat_eq
  simp only [BitVec.toNat_add, BitVec.toNat_mul, BitVec.toNat_ofNat, tileNo]
  omega

theorem list_toNat (i : grid0.Coords) {n : ℕ} (hn : n < 8192) :
    (BitVec.ofNat 32 n + BitVec.ofNat 32 (tileNo i) * 8192#32).toNat = 8192 * tileNo i + n := by
  have h0 : (i 0).val < 2 := (i 0).isLt
  have h1 : (i 1).val < 16 := (i 1).isLt
  simp only [BitVec.toNat_add, BitVec.toNat_mul, BitVec.toNat_ofNat, tileNo]
  omega

set_option maxHeartbeats 4000000 in
theorem tile :
    Mem (F := F) (d := d) (i := i) O W arg2 arg3 arg4 arg5 arg6 arg7 arg8 arg9 arg10 arg11 arg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 q q3 fx f3 (fun _ => True) (fun _ => True)
      ⊢ wpt d i (cc0__sc_sort_gather i arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17)
        fun _ => Mem (F := F) (d := d) (i := i) O W arg2 arg3 arg4 arg5 arg6 arg7 arg8 arg9 arg10 arg11 arg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 q q3 fx f3
          (YOk (rowKeys i d arg3 f3) (tileNo i) (arg2.view.read (Elt F) fx)) (FOk (rowKeys i d arg3 f3)) := by
  rw [cc0__sc_sort_gather_eq_skeleton]
  unfold cc0__sc_sort_gather_skel
  rw [k0_part10_eq_skeleton, k0_part11_eq_skeleton, k0_part12_eq_skeleton, k0_part13_eq_skeleton, k0_part14_eq_skeleton, k0_part15_eq_skeleton,
    k0_part16_eq_skeleton, k0_part17_eq_skeleton]
  unfold k0_part10_skel k0_part11_skel k0_part12_skel k0_part13_skel k0_part14_skel k0_part15_skel k0_part16_skel k0_part17_skel
  dsimp only
  simp only [bind_assoc, pure_bind]
  unfold Mem
  iintro ⟨Hx, H3, ⟨%fy, %_, HY⟩, H5, ⟨H6, H7, H8, H9, H10, H11, H12⟩, ⟨Hr0, Hr1, Hg, Hy, Hd⟩, HO⟩
  -- the row in
  iapply (wpt_copy (F := F) (d := d) (i := i) O W (View.dmaCredit_pos _ (by decide)) rfl) $$ [H3 H11 Hr0 HO]
  · isplitl [H3]; · iexact H3
    isplitl [H11]; · iexact H11
    isplitl [Hr0]; · iexact Hr0
    iexact HO
  iintro ⟨H3, H11, Hr0, HO⟩
  icases (scr_own (F := F) (d := d) (i := i) arg6 _) $$ H6 with ⟨%w6, %_, H6⟩
  icases (scr_own (F := F) (d := d) (i := i) arg7 _) $$ H7 with ⟨%w7, %_, H7⟩
  icases (scr_own (F := F) (d := d) (i := i) arg8 _) $$ H8 with ⟨%w8, %_, H8⟩
  icases (scr_own (F := F) (d := d) (i := i) arg9 _) $$ H9 with ⟨%w9, %_, H9⟩
  icases (scr_own (F := F) (d := d) (i := i) arg10 _) $$ H10 with ⟨%w10, %_, H10⟩
  icases (scr_own (F := F) (d := d) (i := i) arg11 _) $$ H11 with ⟨%w11, %hw11, H11⟩
  subst hw11
  -- the sort
  iapply (loop1 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 w10) $$ H10
  iintro %_ ⟨%h, H10, %hh⟩
  iapply (loop2 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 _ w6 w7 h hh) $$ [H11 H6 H7 H10]
  · isplitl [H11]; · iexact H11
    isplitl [H6]; · iexact H6
    isplitl [H7]; · iexact H7
    iexact H10
  iintro %_ ⟨%k6, %i7, %h2, ⟨H11, H6, H7, H10⟩, %hp⟩
  iapply (loop3 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 _ h2 hp.2) $$ H10
  iintro %_ ⟨%h3, H10, %hh3⟩
  iapply (loop4 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 _ h3 hh3) $$ H10
  iintro %_ ⟨%h4, H10, %hh4⟩
  iapply (loop5 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 _ h4 hh4) $$ H10
  iintro %_ ⟨%h5, H10, %hh5⟩
  iapply (loop6 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 _ (bases (rowKeys i d arg3 f3)) k6 i7 w8 w9 h5 hp.1 hh5 (fun _ _ => rfl)) $$ [H6 H7 H8 H9 H10]
  · isplitl [H6]; · iexact H6
    isplitl [H7]; · iexact H7
    isplitl [H8]; · iexact H8
    isplitl [H9]; · iexact H9
    iexact H10
  iintro %_ ⟨%T1, %k8, %i9, %h6, ⟨H6, H7, H8, H9, H10⟩, %hp1⟩
  iapply (loop7 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 _ _ T1 k8 i9 k6 i7 h6 hp1.1 hp1.2.1 hp1.2.2) $$ [H6 H7 H8 H9 H10]
  · isplitl [H8]; · iexact H8
    isplitl [H9]; · iexact H9
    isplitl [H6]; · iexact H6
    isplitl [H7]; · iexact H7
    iexact H10
  iintro %_ ⟨%T2, %k6', %i7', %h7, ⟨H8, H9, H6, H7, H10⟩, %hp2⟩
  iapply (loop8 (F := F) (d := d) (i := i) arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 _ _ T2 k6' i7' i9 _ h7 hp2.1 hp2.2.1 hp2.2.2) $$ [H6 H7 H11 H9 H10]
  · isplitl [H6]; · iexact H6
    isplitl [H7]; · iexact H7
    isplitl [H11]; · iexact H11
    isplitl [H9]; · iexact H9
    iexact H10
  iintro %_ ⟨%k11, %i9', %h8, ⟨H6, H7, H11, H9, H10⟩, %hs⟩
  -- the sorted row out
  icases (own_raw (F := F) (d := d) (i := i) arg11) $$ H11 with ⟨%f11, %hf11, H11⟩
  iapply (wpt_copy (F := F) (d := d) (i := i) O W (View.dmaCredit_pos _ (by decide)) rfl) $$ [H11 H5 Hr1 HO]
  · isplitl [H11]; · iexact H11
    isplitl [H5]
    · unfold scr
      icases H5 with ⟨%f, %_, H5⟩
      iexists f
      isplitr; · ipureintro; trivial
      iexact H5
    isplitl [Hr1]; · iexact Hr1
    iexact HO
  iintro ⟨H11, H5, Hr1, HO⟩
  icases (own_raw (F := F) (d := d) (i := i) arg9) $$ H9 with ⟨%fl, %hfl, H9⟩
  have hl : ∀ p : S8192.Idx, (arg9.view.read (Elt F) fl p : BitVec 32).toNat = 8192 * tileNo i + nth (rowKeys i d arg3 f3) (pos p) := fun p => by
    have e := (hs p).2
    rw [tile_v1] at e
    rw [hfl, e]
    exact list_toNat i (nth_lt _ _)
  have hls : ∀ p : S8192.Idx, (arg9.view.read (Elt F) fl p : BitVec 32).toNat < 262144 := fun p => by
    rw [hl]
    have h0 : (i 0).val < 2 := (i 0).isLt
    have h1 : (i 1).val < 16 := (i 1).isLt
    have h2 := nth_lt (rowKeys i d arg3 f3) (pos p)
    unfold tileNo
    omega
  -- the gathers issued
  icases (Entails.of_eq ((pointsTo_piecesOf arg9.view.set fl (show 0 < 8 by decide) fullShare).trans (bigSep_ring _))) $$ H9 with ⟨L0, L1, L2, L3, L4, L5, L6, L7⟩
  icases (Entails.of_eq ((pointsTo_piecesOf arg2.view.set fx (show 0 < 8 by decide) q).trans (bigSep_ring _))) $$ Hx with ⟨X0, X1, X2, X3, X4, X5, X6, X7⟩
  icases (scr_slots (F := F) (d := d) (i := i) arg12) $$ H12 with ⟨S0, S1, S2, S3, S4, S5, S6, S7⟩
  icases Hg with ⟨G0, G1, G2, G3, G4, G5, G6, G7⟩
  iapply (wpt_issue (F := F) (d := d) (i := i) arg2 arg9 fx fl (M := slotM arg12 0) (q := pieceOf q 8 (by decide) 0) (ql := pieceOf fullShare 8 (by decide) 0)
    (n := 8 * 0 + (0 : Fin 8).val) (P := fun _ => True) rfl hls) $$ [S0 X0 L0 G0]
  · isplitl [S0 X0 L0]
    · unfold Idle
      isplitl [S0]; · iexact S0
      isplitl [X0]; · iexact X0
      iexact L0
    iexact G0
  iintro F0
  iapply (wpt_issue (F := F) (d := d) (i := i) arg2 arg9 fx fl (M := slotM arg12 1) (q := pieceOf q 8 (by decide) 1) (ql := pieceOf fullShare 8 (by decide) 1)
    (n := 8 * 0 + (1 : Fin 8).val) (P := fun _ => True) rfl hls) $$ [S1 X1 L1 G1]
  · isplitl [S1 X1 L1]
    · unfold Idle
      isplitl [S1]; · iexact S1
      isplitl [X1]; · iexact X1
      iexact L1
    iexact G1
  iintro F1
  iapply (wpt_issue (F := F) (d := d) (i := i) arg2 arg9 fx fl (M := slotM arg12 2) (q := pieceOf q 8 (by decide) 2) (ql := pieceOf fullShare 8 (by decide) 2)
    (n := 8 * 0 + (2 : Fin 8).val) (P := fun _ => True) rfl hls) $$ [S2 X2 L2 G2]
  · isplitl [S2 X2 L2]
    · unfold Idle
      isplitl [S2]; · iexact S2
      isplitl [X2]; · iexact X2
      iexact L2
    iexact G2
  iintro F2
  iapply (wpt_issue (F := F) (d := d) (i := i) arg2 arg9 fx fl (M := slotM arg12 3) (q := pieceOf q 8 (by decide) 3) (ql := pieceOf fullShare 8 (by decide) 3)
    (n := 8 * 0 + (3 : Fin 8).val) (P := fun _ => True) rfl hls) $$ [S3 X3 L3 G3]
  · isplitl [S3 X3 L3]
    · unfold Idle
      isplitl [S3]; · iexact S3
      isplitl [X3]; · iexact X3
      iexact L3
    iexact G3
  iintro F3
  iapply (wpt_issue (F := F) (d := d) (i := i) arg2 arg9 fx fl (M := slotM arg12 4) (q := pieceOf q 8 (by decide) 4) (ql := pieceOf fullShare 8 (by decide) 4)
    (n := 8 * 0 + (4 : Fin 8).val) (P := fun _ => True) rfl hls) $$ [S4 X4 L4 G4]
  · isplitl [S4 X4 L4]
    · unfold Idle
      isplitl [S4]; · iexact S4
      isplitl [X4]; · iexact X4
      iexact L4
    iexact G4
  iintro F4
  iapply (wpt_issue (F := F) (d := d) (i := i) arg2 arg9 fx fl (M := slotM arg12 5) (q := pieceOf q 8 (by decide) 5) (ql := pieceOf fullShare 8 (by decide) 5)
    (n := 8 * 0 + (5 : Fin 8).val) (P := fun _ => True) rfl hls) $$ [S5 X5 L5 G5]
  · isplitl [S5 X5 L5]
    · unfold Idle
      isplitl [S5]; · iexact S5
      isplitl [X5]; · iexact X5
      iexact L5
    iexact G5
  iintro F5
  iapply (wpt_issue (F := F) (d := d) (i := i) arg2 arg9 fx fl (M := slotM arg12 6) (q := pieceOf q 8 (by decide) 6) (ql := pieceOf fullShare 8 (by decide) 6)
    (n := 8 * 0 + (6 : Fin 8).val) (P := fun _ => True) rfl hls) $$ [S6 X6 L6 G6]
  · isplitl [S6 X6 L6]
    · unfold Idle
      isplitl [S6]; · iexact S6
      isplitl [X6]; · iexact X6
      iexact L6
    iexact G6
  iintro F6
  iapply (wpt_issue (F := F) (d := d) (i := i) arg2 arg9 fx fl (M := slotM arg12 7) (q := pieceOf q 8 (by decide) 7) (ql := pieceOf fullShare 8 (by decide) 7)
    (n := 8 * 0 + (7 : Fin 8).val) (P := fun _ => True) rfl hls) $$ [S7 X7 L7 G7]
  · isplitl [S7 X7 L7]
    · unfold Idle
      isplitl [S7]; · iexact S7
      isplitl [X7]; · iexact X7
      iexact L7
    iexact G7
  iintro F7
  -- the ring turned
  icases Hy with ⟨Y0, Y1, Y2, Y3, Y4, Y5, Y6, Y7⟩
  iapply (wpt_loop (F := F) (d := d) (i := i) k0_t9_loop (ok := k0_t9_ok) (n := 15)
    (fun k _ => Turning (F := F) (d := d) (i := i) O W arg2 arg4 arg9 arg12 arg13 arg14 arg15 arg16 arg17 arg18 arg19 arg20 v237_r2 v237_r3 v237_r4 v237_r5 v237_r6 v237_r7 v237_r8 v237_r9 fx fl (pieceOf q 8 (by decide)) (pieceOf fullShare 8 (by decide)) k)
    (fun k acc => trip9 (F := F) (d := d) (i := i) O W arg2 harg2 arg3 harg3 arg4 harg4 arg5 harg5 arg6 harg6 arg7 harg7 arg8 harg8 arg9 harg9 arg10 harg10 arg11 harg11 arg12 harg12 arg13 arg14 arg15 arg16 arg17 arg18 arg19 arg20 v100_r0 v100_r1 v237_r2 v237_r3 v237_r4 v237_r5 v237_r6 v237_r7 v237_r8 v237_r9 v100_r10 v100_r11 v100_r12 v100_r13 v100_r14 v100_r15 v100_r16 v100_r17 fx fl (pieceOf q 8 (by decide)) (pieceOf fullShare 8 (by decide)) hls _ _ _ _ k acc) (by decide)) $$ [F0 F1 F2 F3 F4 F5 F6 F7 Y0 Y1 Y2 Y3 Y4 Y5 Y6 Y7 HY HO]
  · unfold Turning
    isplitl [F0 F1 F2 F3 F4 F5 F6 F7 Y0 Y1 Y2 Y3 Y4 Y5 Y6 Y7]
    · isplitl [F0 Y0]
      · isplitl [F0]; · iexact F0
        iexact Y0
      isplitl [F1 Y1]
      · isplitl [F1]; · iexact F1
        iexact Y1
      isplitl [F2 Y2]
      · isplitl [F2]; · iexact F2
        iexact Y2
      isplitl [F3 Y3]
      · isplitl [F3]; · iexact F3
        iexact Y3
      isplitl [F4 Y4]
      · isplitl [F4]; · iexact F4
        iexact Y4
      isplitl [F5 Y5]
      · isplitl [F5]; · iexact F5
        iexact Y5
      isplitl [F6 Y6]
      · isplitl [F6]; · iexact F6
        iexact Y6
      isplitl [F7]; · iexact F7
      iexact Y7
    isplitl [HY]
    · unfold Yown
      iexists fy
      isplitr
      · ipureintro; intro u z p h; omega
      iexact HY
    iexact HO
  iintro %_ HT
  unfold Turning
  icases HT with ⟨⟨⟨F0, Y0⟩, ⟨F1, Y1⟩, ⟨F2, Y2⟩, ⟨F3, Y3⟩, ⟨F4, Y4⟩, ⟨F5, Y5⟩, ⟨F6, Y6⟩, ⟨F7, Y7⟩⟩, HY, HO⟩
  icases Hd with ⟨D0, D1, D2, D3, D4, D5, D6, D7⟩
  -- the last windows
  iapply (wpt_drain (F := F) (d := d) (i := i) O W arg2 arg9 arg4 fx fl (n := 8 * 15 + 0) (m := 8 * 15 + 1) (by omega) rfl (off13_row i 0) (off13_col i 0)) $$ [F0 HY D0 HO]
  · isplitl [F0]; · iexact F0
    isplitl [HY]; · iexact HY
    isplitl [D0]; · iexact D0
    iexact HO
  iintro ⟨⟨I0, G0, D0⟩, HY, HO⟩
  iapply (wpt_drain (F := F) (d := d) (i := i) O W arg2 arg9 arg4 fx fl (n := 8 * 15 + 1) (m := 8 * 15 + 2) (by omega) rfl (off13_row i 1) (off13_col i 1)) $$ [F1 HY D1 HO]
  · isplitl [F1]; · iexact F1
    isplitl [HY]; · iexact HY
    isplitl [D1]; · iexact D1
    iexact HO
  iintro ⟨⟨I1, G1, D1⟩, HY, HO⟩
  iapply (wpt_drain (F := F) (d := d) (i := i) O W arg2 arg9 arg4 fx fl (n := 8 * 15 + 2) (m := 8 * 15 + 3) (by omega) rfl (off13_row i 2) (off13_col i 2)) $$ [F2 HY D2 HO]
  · isplitl [F2]; · iexact F2
    isplitl [HY]; · iexact HY
    isplitl [D2]; · iexact D2
    iexact HO
  iintro ⟨⟨I2, G2, D2⟩, HY, HO⟩
  iapply (wpt_drain (F := F) (d := d) (i := i) O W arg2 arg9 arg4 fx fl (n := 8 * 15 + 3) (m := 8 * 15 + 4) (by omega) rfl (off13_row i 3) (off13_col i 3)) $$ [F3 HY D3 HO]
  · isplitl [F3]; · iexact F3
    isplitl [HY]; · iexact HY
    isplitl [D3]; · iexact D3
    iexact HO
  iintro ⟨⟨I3, G3, D3⟩, HY, HO⟩
  iapply (wpt_drain (F := F) (d := d) (i := i) O W arg2 arg9 arg4 fx fl (n := 8 * 15 + 4) (m := 8 * 15 + 5) (by omega) rfl (off13_row i 4) (off13_col i 4)) $$ [F4 HY D4 HO]
  · isplitl [F4]; · iexact F4
    isplitl [HY]; · iexact HY
    isplitl [D4]; · iexact D4
    iexact HO
  iintro ⟨⟨I4, G4, D4⟩, HY, HO⟩
  iapply (wpt_drain (F := F) (d := d) (i := i) O W arg2 arg9 arg4 fx fl (n := 8 * 15 + 5) (m := 8 * 15 + 6) (by omega) rfl (off13_row i 5) (off13_col i 5)) $$ [F5 HY D5 HO]
  · isplitl [F5]; · iexact F5
    isplitl [HY]; · iexact HY
    isplitl [D5]; · iexact D5
    iexact HO
  iintro ⟨⟨I5, G5, D5⟩, HY, HO⟩
  iapply (wpt_drain (F := F) (d := d) (i := i) O W arg2 arg9 arg4 fx fl (n := 8 * 15 + 6) (m := 8 * 15 + 7) (by omega) rfl (off13_row i 6) (off13_col i 6)) $$ [F6 HY D6 HO]
  · isplitl [F6]; · iexact F6
    isplitl [HY]; · iexact HY
    isplitl [D6]; · iexact D6
    iexact HO
  iintro ⟨⟨I6, G6, D6⟩, HY, HO⟩
  iapply (wpt_drain (F := F) (d := d) (i := i) O W arg2 arg9 arg4 fx fl (n := 8 * 15 + 7) (m := 8 * 15 + 8) (by omega) rfl (off13_row i 7) (off13_col i 7)) $$ [F7 HY D7 HO]
  · isplitl [F7]; · iexact F7
    isplitl [HY]; · iexact HY
    isplitl [D7]; · iexact D7
    iexact HO
  iintro ⟨⟨I7, G7, D7⟩, HY, HO⟩
  iapply wpt_pure
  unfold Idle Yown
  icases I0 with ⟨S0, X0, L0⟩
  icases I1 with ⟨S1, X1, L1⟩
  icases I2 with ⟨S2, X2, L2⟩
  icases I3 with ⟨S3, X3, L3⟩
  icases I4 with ⟨S4, X4, L4⟩
  icases I5 with ⟨S5, X5, L5⟩
  icases I6 with ⟨S6, X6, L6⟩
  icases I7 with ⟨S7, X7, L7⟩
  icases HY with ⟨%fy', %hy, HY⟩
  isplitl [X0 X1 X2 X3 X4 X5 X6 X7]
  · iapply (Entails.of_eq ((pointsTo_piecesOf arg2.view.set fx (show 0 < 8 by decide) q).trans (bigSep_ring _)).symm)
    isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [H3]; · iexact H3
  isplitl [HY]
  · iexists fy'
    isplitr
    · ipureintro
      intro u z r hr hu hz hz1
      exact hy u z (ix r hr) (by rw [pos_ix]; omega) (by rw [pos_ix]; exact hu) (by rw [hl, pos_ix]; exact hz) hz1
    iexact HY
  isplitl [H5]
  · unfold scr
    icases H5 with ⟨%f5, %h5, H5⟩
    iexists f5
    isplitr
    · ipureintro
      intro p
      rw [h5, hf11]
      exact (hs p).1
    iexact H5
  isplitl [H6 H7 H8 L0 L1 L2 L3 L4 L5 L6 L7 H10 H11 S0 S1 S2 S3 S4 S5 S6 S7]
  · isplitl [H6]; · iapply (own_scr (P := fun _ => True) trivial) $$ H6
    isplitl [H7]; · iapply (own_scr (P := fun _ => True) trivial) $$ H7
    isplitl [H8]; · iapply (own_scr (P := fun _ => True) trivial) $$ H8
    isplitl [L0 L1 L2 L3 L4 L5 L6 L7]
    · unfold scr
      iexists fl
      isplitr; · ipureintro; trivial
      iapply (Entails.of_eq ((pointsTo_piecesOf arg9.view.set fl (show 0 < 8 by decide) fullShare).trans (bigSep_ring _)).symm)
      isplitl [L0]; · iexact L0
      isplitl [L1]; · iexact L1
      isplitl [L2]; · iexact L2
      isplitl [L3]; · iexact L3
      isplitl [L4]; · iexact L4
      isplitl [L5]; · iexact L5
      isplitl [L6]; · iexact L6
      iexact L7
    isplitl [H10]; · iapply (own_scr (P := fun _ => True) trivial) $$ H10
    isplitl [H11]
    · unfold scr
      iexists f11
      isplitr; · ipureintro; trivial
      iexact H11
    iapply (slots_scr (F := F) (d := d) (i := i) arg12)
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Hr0 Hr1 G0 G1 G2 G3 G4 G5 G6 G7 Y0 Y1 Y2 Y3 Y4 Y5 Y6 Y7 D0 D1 D2 D3 D4 D5 D6 D7]
  · isplitl [Hr0]; · iexact Hr0
    isplitl [Hr1]; · iexact Hr1
    isplitl [G0 G1 G2 G3 G4 G5 G6 G7]
    · isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    isplitl [Y0 Y1 Y2 Y3 Y4 Y5 Y6 Y7]
    · isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      iexact Y7
    isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  iexact HO

end Tile

end Cert.Sort
-- ==== Proof.Deal.lean ====
/-
  What each tile is dealt and hands back: its share of `x`, its row of fitnesses, its blocks of the two results. The
  results are stated at fixed contents, functions of `x` and of the fitnesses.
-/
module

public import proofs.«01_k».proof.Proof.Tile

@[expose] public section

noncomputable section

namespace Cert.Sort

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

/-! ## The results as functions -/

/-- An index of a matrix, by its coordinates. -/
def at2 {a b : ℕ} (r : Fin a) (c : Fin b) : (⟨2, ![a, b]⟩ : Shape).Idx := fun
  | 0 => r
  | 1 => c
  | ⟨_ + 2, h⟩ => absurd h (Nat.not_lt.2 (Nat.le_add_left _ _))

theorem eq_at2 {a b : ℕ} (z : (⟨2, ![a, b]⟩ : Shape).Idx) : z = at2 (z 0) (z 1) := by
  funext k
  match k with
  | 0 => rfl
  | 1 => rfl

theorem ext2 {a b : ℕ} {z w : (⟨2, ![a, b]⟩ : Shape).Idx} (h0 : (z 0).val = (w 0).val) (h1 : (z 1).val = (w 1).val) : z = w := by
  rw [eq_at2 z, eq_at2 w, Fin.ext h0, Fin.ext h1]

/-- Row `b` of the fitnesses. -/
def rowOf (f : Vec F S32x8192 .f32) (b : Fin 32) : Vec F S8192 .f32 := fun p => f (at2 b ⟨pos p, pos_lt p⟩)

/-- The keys of row `b`. -/
def rowK (f : Vec F S32x8192 .f32) (b : Fin 32) : ℕ → BitVec 32 := keys (rowOf f b)

theorem blk_lt (u : S262144x128.Idx) : (u 0).val / 8192 < 32 := Nat.div_lt_of_lt_mul (u 0).isLt

/-- The rows of `xs`, those of each block in the order of the block's fitnesses. -/
def yVal (xs : Vec F S262144x128 .f32) (f : Vec F S32x8192 .f32) : Vec F S262144x128 .f32 := fun u =>
  xs (at2 ⟨8192 * ((u 0).val / 8192) + nth (rowK f ⟨_, blk_lt u⟩) ((u 0).val % 8192),
    by have := blk_lt u; have := nth_lt (rowK f ⟨_, blk_lt u⟩) ((u 0).val % 8192); omega⟩ (u 1))

/-- Each row of fitnesses in order. -/
def fVal (f : Vec F S32x8192 .f32) : Vec F S32x8192 .f32 := fun z => dec (rowK f (z 0) (nth (rowK f (z 0)) (z 1).val))

/-! ## The buffers of a tile -/

section Loc

abbrev aLoc (d : Dev nD) : Loc nD τ sig := (SparseCore.T d).loc main_arg0
abbrev fLoc (d : Dev nD) : Loc nD τ sig := (SparseCore.T d).loc main_arg1
abbrev xLoc (d : Dev nD) : Loc nD τ sig := (SparseCore.T d).loc main_v0
abbrev yLoc (d : Dev nD) : Loc nD τ sig := (SparseCore.T d).loc main_v1_0
abbrev gLoc (d : Dev nD) : Loc nD τ sig := (SparseCore.T d).loc main_v1_1
abbrev rLoc (d : Dev nD) : Loc nD τ sig := (SparseCore.T d).loc main_v2

abbrev xV : Memref sig .scVector .hbm S262144x128 .f32 := Memref.whole main_v0_scv
abbrev fV : Memref sig .scVector .hbm S32x8192 .f32 := Memref.whole main_arg1_scv
abbrev yV : Memref sig .scVector .hbm S262144x128 .f32 := Memref.whole main_v1_0_scv
abbrev gV : Memref sig .scVector .hbm S32x8192 .f32 := Memref.whole main_v1_1_scv

def coordsV (c : Fin (grid0.bound 0)) (s : Fin (grid0.bound 1)) : grid0.Coords :=
  fun | 0 => c | 1 => s | ⟨_ + 2, h⟩ => absurd h (Nat.not_lt.2 (Nat.le_add_left _ _))

theorem tileNo_lt (i : grid0.Coords) : tileNo i < 32 := by
  have h0 : (i 0).val < 2 := (i 0).isLt
  have h1 : (i 1).val < 16 := (i 1).isLt
  unfold tileNo
  omega

abbrev tileB (i : grid0.Coords) : Fin 32 := ⟨tileNo i, tileNo_lt i⟩

/-- The elements of row `b`. -/
def rowIdx (b : ℕ) : Finset S32x8192.Idx := Finset.univ.filter fun z => (z 0).val = b

theorem row_emb (i : grid0.Coords) (p : S8192.Idx) :
    (Rect.unit (s := S32x8192) (k0_off1 i) S1x8192.size (k0_off1_inb i)).emb (Shape.reshapeEquiv squeezes_S1x8192_S8192.numel_eq p)
      = at2 (tileB i) ⟨pos p, pos_lt p⟩ := by
  have e : Shape.reshapeEquiv squeezes_S1x8192_S8192.numel_eq p = (at2 (0 : Fin 1) (⟨pos p, pos_lt p⟩ : Fin 8192) : S1x8192.Idx) := by
    apply Shape.reshapeEquiv_eq_of_rowMajor
    refine (Shape.rowMajor_val_two _).trans (Eq.trans ?_ (Shape.rowMajor_val_one _).symm)
    show 0 * 8192 + pos p = pos p
    omega
  rw [e]
  refine ext2 ?_ ?_
  · rw [Rect.emb_apply]
    show k0_off1 i 0 + 1 * 0 = tileNo i
    rw [k0_off1_eq]; show 2 * (i 1).val + (i 0).val + 1 * 0 = _; unfold tileNo; omega
  · rw [Rect.emb_apply]
    show k0_off1 i 1 + 1 * pos p = pos p
    rw [k0_off1_eq]; show 0 + 1 * pos p = _; omega

theorem row_read (i : grid0.Coords) (f : Vec F S32x8192 .f32) : (rowM fV i).view.read (Elt F) f = rowOf f (tileB i) := by
  funext p
  show f _ = f _
  exact congrArg f (row_emb i p)

theorem row_read' (i : grid0.Coords) (f : Vec F S32x8192 .f32) : (rowM gV i).view.read (Elt F) f = rowOf f (tileB i) := by
  funext p
  show f _ = f _
  exact congrArg f (row_emb i p)

theorem row_set (i : grid0.Coords) : (rowM fV i).view.set = rowIdx (tileNo i) := by
  ext z
  have h : z ∈ (rowM fV i).view.set ↔ ∃ p : S8192.Idx, at2 (tileB i) ⟨pos p, pos_lt p⟩ = z := by
    constructor
    · intro hz
      obtain ⟨p, -, hp⟩ := Finset.mem_map.mp hz
      exact ⟨p, (row_emb i p).symm.trans hp⟩
    · rintro ⟨p, hp⟩
      exact Finset.mem_map.mpr ⟨p, Finset.mem_univ _, (row_emb i p).trans hp⟩
  rw [h]
  unfold rowIdx
  rw [Finset.mem_filter]
  constructor
  · rintro ⟨p, rfl⟩
    exact ⟨Finset.mem_univ _, rfl⟩
  · rintro ⟨-, hz⟩
    refine ⟨ix (z 1).val (z 1).isLt, ext2 ?_ rfl⟩
    exact hz.symm

theorem row_set' (i : grid0.Coords) : (rowM gV i).view.set = rowIdx (tileNo i) := row_set i

theorem blk_set (i : grid0.Coords) : (yV).view.setOn (blkIdx (tileNo i)) = blkIdx (tileNo i) := Finset.map_refl

/-- A tile's numbers of rows determine its coordinates. -/
theorem tileNo_inj {i j : grid0.Coords} (h : tileNo i = tileNo j) : i = j := by
  have h0 : (i 0).val < 2 := (i 0).isLt
  have h1 : (i 1).val < 16 := (i 1).isLt
  have h2 : (j 0).val < 2 := (j 0).isLt
  have h3 : (j 1).val < 16 := (j 1).isLt
  unfold tileNo at h
  funext k
  match k with
  | 0 => exact Fin.ext (by omega)
  | 1 => exact Fin.ext (by omega)

/-! ## The payloads -/

/-- A tile's share of `x`. -/
def xq (i : grid0.Coords) : PosShare TreeShare :=
  pieceOf (pieceOf fullShare 2 (by decide) (i 0)) 16 (by decide) (i 1)

/-- A tile's part of the memory: `x` and the fitnesses as they are, the two results at given contents. -/
def dealt (d : Dev nD) (i : grid0.Coords) (X : Vec F S262144x128 .f32) (f : Vec F S32x8192 .f32) (y : Vec F S262144x128 .f32) (g : Vec F S32x8192 .f32) : sProp 𝕄 :=
  iprop((xLoc d ↦{xq i} X) ∗ (fLoc d ↦[rowIdx (tileNo i)]{fullShare} f) ∗ (yLoc d ↦[blkIdx (tileNo i)]{fullShare} y)
    ∗ (gLoc d ↦[rowIdx (tileNo i)]{fullShare} g))

instance dealt_storable (d : Dev nD) (i : grid0.Coords) (X : Vec F S262144x128 .f32) (f : Vec F S32x8192 .f32) (y : Vec F S262144x128 .f32) (g : Vec F S32x8192 .f32) :
    BI.Storable (upEmb : UEmb _ 𝕄) (dealt d i X f y g) := by
  unfold dealt; infer_instance

/-! ## A tile's own cells and buffers -/

def scrRef : Fin 7 → Ref sig .scVector :=
  ![cc0_scratch0, cc0_scratch1, cc0_scratch2, cc0_scratch3, cc0_scratch4, cc0_scratch5, cc0_scratch6]

def semOf : Fin 2 ⊕ Fin 3 × Fin 8 → DmaSem sig
  | .inl a => ![cc0_scoped0.sem, cc0_scoped1.sem] a
  | .inr (g, s) =>
    (![![cc0_scratch7.sem, cc0_scratch8.sem, cc0_scratch9.sem, cc0_scratch10.sem, cc0_scratch11.sem, cc0_scratch12.sem, cc0_scratch13.sem, cc0_scratch14.sem],
      ![cc0_scoped2.sem, cc0_scoped3.sem, cc0_scoped4.sem, cc0_scoped5.sem, cc0_scoped6.sem, cc0_scoped7.sem, cc0_scoped8.sem, cc0_scoped9.sem],
      ![cc0_scoped10.sem, cc0_scoped11.sem, cc0_scoped12.sem, cc0_scoped13.sem, cc0_scoped14.sem, cc0_scoped15.sem, cc0_scoped16.sem, cc0_scoped17.sem]]
      : Fin 3 → Fin 8 → DmaSem sig) g s

theorem scrRef_inj : Function.Injective scrRef := by decide
theorem semOf_inj : Function.Injective semOf := by decide
theorem semOf_scoped : ∀ k, (SemLoc.dma (semOf k) : SemLoc sig).isScoped .scVector = true := by decide

/-- A family drawn from a set, and the rest of the set. -/
theorem bigSep_family {ι J : Type} [Fintype ι] [DecidableEq J] (S : Finset J) (e : ι ↪ J) (h : ∀ k, e k ∈ S) (Φ : J → sProp 𝕄) :
    bigSep S Φ = iprop((bigSep Finset.univ fun k => Φ (e k)) ∗ bigSep (S \ Finset.univ.map e) Φ) := by
  have hs : Finset.univ.map e ⊆ S := by
    intro z hz
    obtain ⟨k, -, rfl⟩ := Finset.mem_map.mp hz
    exact h k
  conv_lhs => rw [← Finset.union_sdiff_of_subset hs]
  rw [bigSep_union Finset.disjoint_sdiff, bigSep_map]
  rfl

def cellE (t : Thread nD τ) : (Fin 2 ⊕ Fin 3 × Fin 8) ↪ GSem nD τ sig :=
  ⟨fun k => (t, .dma (semOf k)), fun a b h => semOf_inj (by injection h with _ h; injection h)⟩

def refE (c : Fin τ.nSC) (j : Fin τ.nSub) : Fin 7 ↪ DevRef τ sig :=
  ⟨fun k => (Proc.scVector c j).devRef (scrRef k), fun a b h => scrRef_inj (Proc.devRef_injective _ h)⟩

theorem ownSems0_V (d : Dev nD) (c : Fin τ.nSC) (j : Fin τ.nSub) :
    ∃ R : sProp 𝕄, (ownSems0 (V d c j) : sProp 𝕄)
      = iprop(((semVal (V d c j, .dma cc0_scoped0.sem) 0 ∗ semVal (V d c j, .dma cc0_scoped1.sem) 0)
          ∗ ring (fun s => semVal (V d c j, .dma (semOf (.inr (0, s)))) 0) ∗ ring (fun s => semVal (V d c j, .dma (semOf (.inr (1, s)))) 0)
          ∗ ring (fun s => semVal (V d c j, .dma (semOf (.inr (2, s)))) 0)) ∗ R) := by
  refine ⟨bigSep (ownCells (V d c j) \ Finset.univ.map (cellE (V d c j))) fun g => semVal g 0, ?_⟩
  unfold SparseCore.Cfg.ownSems0
  rw [bigSep_family _ (cellE (V d c j)) (fun k => mem_ownCells.mpr ⟨rfl, semOf_scoped k⟩)]
  rw [bigSep_univ_sum, bigSep_univ_prod, bigSep_univ_succ (m := 1), bigSep_univ_of_subsingleton (0 : Fin 1), bigSep_univ_succ (m := 2), bigSep_univ_succ (m := 1),
    bigSep_univ_of_subsingleton (0 : Fin 1), bigSep_ring, bigSep_ring, bigSep_ring]
  rfl

theorem ownBufs_V (d : Dev nD) (c : Fin τ.nSC) (j : Fin τ.nSub) :
    ∃ R : sProp 𝕄, (ownBufs (V d c j) : sProp 𝕄)
      = iprop(((∃ f, (V d c j).loc cc0_scratch0 ↦{fullShare} f) ∗ (∃ f, (V d c j).loc cc0_scratch1 ↦{fullShare} f)
          ∗ (∃ f, (V d c j).loc cc0_scratch2 ↦{fullShare} f) ∗ (∃ f, (V d c j).loc cc0_scratch3 ↦{fullShare} f)
          ∗ (∃ f, (V d c j).loc cc0_scratch4 ↦{fullShare} f) ∗ (∃ f, (V d c j).loc cc0_scratch5 ↦{fullShare} f)
          ∗ (∃ f, (V d c j).loc cc0_scratch6 ↦{fullShare} f)) ∗ R) := by
  refine ⟨bigSep (ownRefs (τ := τ) (.scVector c j) \ Finset.univ.map (refE c j)) fun b => iprop(∃ f, ((d, b) : Loc nD τ sig) ↦{fullShare} f), ?_⟩
  unfold SparseCore.Cfg.ownBufs
  refine (bigSep_family (ownRefs (τ := τ) (.scVector c j)) (refE c j) (fun k => SparseCore.Cfg.mem_ownRefs_of_owner (p := Proc.scVector c j)
    (b := (Proc.scVector c j).devRef (scrRef k)) ?_) _).trans ?_
  · fin_cases k <;> rfl
  rw [bigSep_univ_succ, bigSep_univ_succ, bigSep_univ_succ, bigSep_univ_succ, bigSep_univ_succ, bigSep_univ_succ, bigSep_univ_of_subsingleton (0 : Fin 1)]
  rfl

end Loc

end Cert.Sort
-- ==== Proof.Order.lean ====
/-
  The reference's sort: a stable sort by a key puts at each place the position of that rank, and the total order it
  compares fitnesses by is the order of the kernel's keys.
-/
module

public import proofs.«01_k».proof.Proof.Deal
public import proofs.«01_k».proof.Proof.Gen.Reference
public import Idealize.ShloMosaic.Lib.SortPrefix
public import Idealize.ShloMosaic.Lib.SortKey
public import Idealize.ShloMosaic.PureOps.BitExact

@[expose] public section

noncomputable section

namespace Cert.Sort

open Idealize.ShloMosaic

/-! ## A stable sort by a key -/

/-- A stable sort of a list may break ties by any relation that agrees on the pairs whose second element comes first. -/
theorem stableSort_ties {ι : Type} (R R' : ι → ι → Bool) : ∀ l : List ι, l.Pairwise (fun a b => R b a = R' b a) → stableSort R l = stableSort R' l
  | [], _ => rfl
  | a :: l, h => by
    obtain ⟨h1, h2⟩ := List.pairwise_cons.mp h
    show insertBefore R a (stableSort R l) = insertBefore R' a (stableSort R' l)
    rw [stableSort_ties R R' l h2]
    exact insertBefore_congr R R' a _ fun b hb => h1 b ((perm_stableSort R' l).mem_iff.mp hb)

theorem sortedFrom_ties {n : ℕ} (R R' : Fin n → Fin n → Bool) (h : ∀ a b : Fin n, a < b → R b a = R' b a) : sortedFrom R = sortedFrom R' := by
  funext k
  unfold sortedFrom
  have e : sortPositions n R = sortPositions n R' :=
    stableSort_ties R R' _ ((List.pairwise_lt_finRange n).imp fun {a b} hab => h a b hab)
  rw [List.get_of_eq e]
  rfl

theorem nth_inj (K : ℕ → BitVec 32) {i j : ℕ} (hi : i < 8192) (hj : j < 8192) (h : nth K i = nth K j) : i = j := by
  rw [← (nth_spec K hi).2, ← (nth_spec K hj).2, h]

theorem nth_klt (K : ℕ → BitVec 32) {i j : ℕ} (hi : i < 8192) (hj : j < 8192) : klt K (nth K i) (nth K j) ↔ i < j := by
  rw [← lt3_iff, ← rk_lt_iff (lt3_lin K) (nth_spec K hi).1 (nth_spec K hj).1, (nth_spec K hi).2, (nth_spec K hj).2]

theorem nth_onto (K : ℕ → BitVec 32) {p : ℕ} (hp : p < 8192) : ∃ i, i < 8192 ∧ nth K i = p := by
  have h := rk_lt (lt3_lin K) hp
  exact ⟨_, h, rk_inj (lt3_lin K) (nth_spec K h).1 hp (nth_spec K h).2⟩

/-- A stable sort of 8192 positions by their keys alone puts at place `r` the position `nth K r`. -/
theorem sorted_nth (K : ℕ → BitVec 32) (R : Fin 8192 → Fin 8192 → Bool)
    (h : ∀ a b, R a b = decide ((K a.val).toNat < (K b.val).toNat)) (r : Fin 8192) : sortedFrom R r = ⟨nth K r.val, nth_lt K _⟩ := by
  classical
  have hB : StrictTotalBefore fun a b : Fin 8192 => decide (klt K a.val b.val) :=
    { irrefl := fun a => decide_eq_false fun e => by unfold klt at e; omega
      trans := fun a b c hab hbc => by
        rw [decide_eq_true_eq] at hab hbc ⊢
        unfold klt at hab hbc ⊢
        omega
      total := fun a b hne => by
        rw [decide_eq_true_eq, decide_eq_true_eq]
        have : a.val ≠ b.val := fun e => hne (Fin.ext e)
        unfold klt
        omega }
  rw [sortedFrom_ties R (fun a b : Fin 8192 => decide (klt K a.val b.val)) fun a b hab => ?_]
  · exact hB.sortedFrom_eq_of_prefix (le_refl 8192) (fun i : Fin 8192 => ⟨nth K i.val, nth_lt K _⟩)
      (fun i j e => Fin.ext (nth_inj K i.isLt j.isLt (congrArg Fin.val e)))
      (fun i j hij => decide_eq_false fun e => by
        have h1 := (nth_klt K j.isLt i.isLt).mp e
        have h2 : i.val < j.val := hij
        omega)
      (fun i p hp => by
        obtain ⟨j, hj, e⟩ := nth_onto K p.isLt
        exact absurd (Fin.ext e) (hp ⟨j, hj⟩)) r
  · rw [h]
    refine decide_eq_decide.mpr ⟨fun e => .inl e, fun e => ?_⟩
    have h2 : a.val < b.val := hab
    unfold klt at e
    omega

/-! ## Keys at the machine's words -/

/-- A word shifted right by its width less one, its sign kept. -/
theorem sar31 (w : BitVec 32) : IntOp.shrsi .vector w 31#32 = if w.msb then 0xFFFFFFFF#32 else 0#32 := by
  have e : IntOp.shrsi .vector w 31#32 = w.sshiftRight 31 := by
    unfold IntOp.shrsi
    rw [if_pos (by decide)]
    rfl
  rw [e]
  refine BitVec.eq_of_getLsbD_eq fun i hi => ?_
  rw [BitVec.getLsbD_sshiftRight, BitVec.msb_eq_getLsbD_last]
  have h1 : decide (32 ≤ i) = false := decide_eq_false (by omega)
  rw [h1, Bool.not_false, Bool.true_and]
  have h2 : (if 31 + i < 32 then w.getLsbD (31 + i) else w.getLsbD (32 - 1)) = w.getLsbD 31 := by
    split
    · rw [show 31 + i = 31 by omega]
    · rfl
  rw [h2]
  cases w.getLsbD (32 - 1)
  · simp
  · rw [if_pos rfl]
    have h3 : ∀ i < 32, (0xFFFFFFFF#32).getLsbD i = true := by decide
    exact (h3 i hi).symm

theorem enc_bits (z : Bits .f32) : enc (F := Bits) z = (z : BitVec 32) ^^^ (IntOp.shrsi .vector (z : BitVec 32) 31#32 ||| 0x80000000#32) := rfl

theorem dec_bits (w : BitVec 32) : dec (F := Bits) w
    = (w ^^^ (0x80000000#32 ||| ((IntOp.shrsi .vector w 31#32 ^^^ 0xFFFFFFFF#32) &&& 0x7FFFFFFF#32)) : BitVec 32) := rfl

theorem enc_eq (z : Bits .f32) : enc (F := Bits) z = totalOrderKey (w := 32) z := by
  rw [enc_bits, sar31, totalOrderKey_eq_sortableKey_xor]
  cases h : (z : BitVec 32).msb
  · rw [sortableKey_of_msb_false _ h]; rfl
  · rw [sortableKey_of_msb_true _ h, BitVec.xor_assoc]; rfl

theorem dec_enc (z : Bits .f32) : dec (F := Bits) (enc (F := Bits) z) = z := by
  rw [dec_bits, sar31, enc_bits, sar31]
  cases h : (z : BitVec 32).msb
  · have e : ((z : BitVec 32) ^^^ 0x80000000#32).msb = true := by rw [BitVec.msb_xor, h]; rfl
    show ((z : BitVec 32) ^^^ 0x80000000#32) ^^^ (0x80000000#32 ||| (((if ((z : BitVec 32) ^^^ 0x80000000#32).msb then 0xFFFFFFFF#32 else 0#32) ^^^ 0xFFFFFFFF#32) &&& 0x7FFFFFFF#32)) = (z : BitVec 32)
    rw [e, BitVec.xor_assoc]
    exact BitVec.xor_zero
  · have e : ((z : BitVec 32) ^^^ 0xFFFFFFFF#32).msb = false := by rw [BitVec.msb_xor, h]; rfl
    show ((z : BitVec 32) ^^^ 0xFFFFFFFF#32) ^^^ (0x80000000#32 ||| (((if ((z : BitVec 32) ^^^ 0xFFFFFFFF#32).msb then 0xFFFFFFFF#32 else 0#32) ^^^ 0xFFFFFFFF#32) &&& 0x7FFFFFFF#32)) = (z : BitVec 32)
    rw [e, BitVec.xor_assoc]
    exact BitVec.xor_zero

/-! ## The comparisons of the reference -/

/-- A fitness as the reference compares it: zero as +0, not-a-number as one word. -/
def norm (z : Bits .f32) : Bits .f32 :=
  Scalar.select (FloatOps.cmpf .une z z) (FloatOps.ofBits .f32 0x7FC00000#32 : Bits .f32)
    (Scalar.select (FloatOps.cmpf .oeq z (FloatOps.ofBits .f32 0x00000000#32 : Bits .f32)) (FloatOps.ofBits .f32 0x00000000#32 : Bits .f32) z)

theorem cmp_total (l r : Bits .f32) : (FloatOps.cmpfTotal (F := Bits) .lt l r == 1#1) = decide ((enc (F := Bits) l).toNat < (enc (F := Bits) r).toNat) := by
  rw [enc_eq, enc_eq]
  show (BitVec.ofBool ((totalOrderKey (w := 32) l).ult (totalOrderKey (w := 32) r)) == 1#1) = _
  unfold BitVec.ult
  cases decide ((totalOrderKey (w := 32) l).toNat < (totalOrderKey (w := 32) r).toNat) <;> rfl

theorem cmp_one (l r : Bits .f32) (hl : norm l = l) (hr : norm r = r) :
    (Cert.Reference.comparator_f32_d1 (F := Bits) l r == 1#1) = decide ((enc (F := Bits) l).toNat < (enc (F := Bits) r).toNat) := by
  show (FloatOps.cmpfTotal (F := Bits) .lt (norm l) (norm r) == 1#1) = _
  rw [hl, hr, cmp_total]

theorem cmp_two (l r : Bits .f32 × BitVec 32) (hl : norm l.1 = l.1) (hr : norm r.1 = r.1) :
    (Cert.Reference.comparator_f32_i32_d1 (F := Bits) l r == 1#1) = decide ((enc (F := Bits) l.1).toNat < (enc (F := Bits) r.1).toNat) := by
  show (FloatOps.cmpfTotal (F := Bits) .lt (norm l.1) (norm r.1) == 1#1) = _
  rw [hl, hr, cmp_total]

/-! ## The sorts of the reference -/

theorem along2 (j : Cert.Kernel.S32x8192.Idx) (k : Fin 8192) : j.along (1 : Fin 2) k = (at2 (j 0 : Fin 32) k : Cert.Kernel.S32x8192.Idx) := by
  unfold Shape.Idx.along
  refine ext2 ?_ ?_
  · have h : (0 : Fin Cert.Kernel.S32x8192.rank) ≠ (1 : Fin 2) := by decide
    exact congrArg Fin.val (Function.update_of_ne h _ _)
  · exact congrArg Fin.val (Function.update_self (1 : Fin Cert.Kernel.S32x8192.rank) _ j)

theorem rowK_at {F : FTy → Type} [BitOps F] (f : Vec F Cert.Kernel.S32x8192 .f32) (b : Fin 32) (p : Fin 8192) : enc (f (at2 b p)) = rowK f b p.val := by
  unfold rowK keys
  rw [dif_pos p.isLt]
  unfold rowOf
  refine congrArg (fun q => enc (f (at2 b q))) (Fin.ext ?_)
  exact (pos_ix ..).symm

theorem key_along (f : Vec Bits Cert.Kernel.S32x8192 .f32) (j : Cert.Kernel.S32x8192.Idx) (p : Fin 8192) :
    enc (F := Bits) (f (j.along (1 : Fin 2) p)) = rowK (F := Bits) f (j 0) p.val :=
  (congrArg (fun z => enc (F := Bits) (f z)) (along2 j p)).trans (rowK_at (F := Bits) f (j 0) p)

variable (f : Vec Bits Cert.Kernel.S32x8192 .f32) (hf : ∀ z, norm (f z) = f z)
include hf

theorem ref_sort : Host.sort Cert.Reference.S32x8192 1 (Cert.Reference.comparator_f32_d1 (F := Bits)) f = fVal (F := Bits) f := by
  funext j
  have h := sorted_nth (rowK (F := Bits) f (j 0)) (fun k k' => Cert.Reference.comparator_f32_d1 (F := Bits) (f (j.along (1 : Fin 2) k)) (f (j.along (1 : Fin 2) k')) == 1#1)
    (fun a b => by rw [cmp_one _ _ (hf _) (hf _), key_along, key_along]) (j 1)
  refine (congrArg (fun q => f (j.along (1 : Fin 2) q)) h).trans ((dec_enc _).symm.trans (congrArg (dec (F := Bits)) ?_))
  exact key_along f j _

theorem ref_argsort : (Host.sort2 Cert.Reference.S32x8192 1 (Cert.Reference.comparator_f32_i32_d1 (F := Bits)) f (iotaInDim Cert.Reference.S32x8192 32 1)).2
    = fun j => BitVec.ofNat 32 (nth (rowK (F := Bits) f (j 0)) (j 1).val) := by
  funext j
  have h := sorted_nth (rowK (F := Bits) f (j 0)) (fun k k' => Cert.Reference.comparator_f32_i32_d1 (F := Bits)
      (f (j.along (1 : Fin 2) k), iotaInDim Cert.Reference.S32x8192 32 1 (j.along (1 : Fin 2) k))
      (f (j.along (1 : Fin 2) k'), iotaInDim Cert.Reference.S32x8192 32 1 (j.along (1 : Fin 2) k')) == 1#1)
    (fun a b => by rw [cmp_two _ _ (hf _) (hf _), key_along, key_along]) (j 1)
  refine (congrArg (fun q => iotaInDim Cert.Reference.S32x8192 32 1 (j.along (1 : Fin 2) q)) h).trans ?_
  exact congrArg (iotaInDim Cert.Reference.S32x8192 32 1) (along2 j _)

end Cert.Sort
-- ==== Proof.Launch.lean ====
/-
  The call: each tile's task against what it is dealt, the launch of the 32 tiles.
-/
module

public import proofs.«01_k».proof.Proof.Deal

@[expose] public section

noncomputable section

namespace Cert.Sort

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

section Body

theorem wp_around {d : Dev nD} {i : grid0.Coords} {α : Type} {p : Prog (TpuEff nD τ sig (Elt F) Λ₀ (.scVector ((i 0).castLE hcore0) ((i 1).castLE hsub0))) α}
    {A B Pre Post R : sProp 𝕄} (h : A ⊢ wpt d i p fun _ => B) (h1 : Pre ⊢ iprop(A ∗ R)) (h2 : iprop(B ∗ R) ⊢ Post) : Pre ⊢ wpt d i p fun _ => Post :=
  h1.trans ((sep_mono_left h).trans ((wp_frame_r _ _ _).trans (wp_mono _ _ _ fun _ => h2)))

variable (d : Dev nD) (i : grid0.Coords) (X : Vec F S262144x128 .f32) (f : Vec F S32x8192 .f32) (y0 : Vec F S262144x128 .f32) (g0 : Vec F S32x8192 .f32)

theorem scr_whole_elim (b : Ref sig .scVector) :
    scr (F := F) d i (Memref.whole b) (fun _ => True) ⊢ (iprop(∃ f, (thr d i).loc b ↦{fullShare} f) : sProp 𝕄) := by
  unfold scr
  rw [show (Memref.whole b).view.set = Finset.univ from View.set_whole _]
  iintro ⟨%f, -, H⟩
  iexists f
  iexact H

theorem scr_whole_intro (b : Ref sig .scVector) :
    (iprop(∃ f, (thr d i).loc b ↦{fullShare} f) : sProp 𝕄) ⊢ scr (F := F) d i (Memref.whole b) (fun _ => True) := by
  unfold scr
  rw [show (Memref.whole b).view.set = Finset.univ from View.set_whole _]
  iintro ⟨%f, H⟩
  iexists f
  isplitr; · ipureintro; trivial
  iexact H

theorem scr_whole (b : Ref sig .scVector) :
    scr (F := F) d i (Memref.whole b) (fun _ => True) = (iprop(∃ f, (thr d i).loc b ↦{fullShare} f) : sProp 𝕄) :=
  BI.Entails.antisymm (scr_whole_elim d i b) (scr_whole_intro d i b)

theorem rowKeys_eq : rowKeys (F := F) i d fV f = rowK f (tileB i) := congrArg keys (row_read i f)

theorem y_of_ok {fy : Vec F S262144x128 .f32} (h : YOk (rowKeys (F := F) i d fV f) (tileNo i) ((xV).view.read (Elt F) X) ((yV).view.read (Elt F) fy))
    (u : S262144x128.Idx) (hu : u ∈ blkIdx (tileNo i)) : fy u = yVal X f u := by
  have hb : (u 0).val / 8192 = tileNo i := (Finset.mem_filter.mp hu).2
  have e : (⟨(u 0).val / 8192, blk_lt u⟩ : Fin 32) = tileB i := Fin.ext hb
  unfold yVal
  refine h u _ ((u 0).val % 8192) (Nat.mod_lt _ (by decide)) (by omega) ?_ rfl
  show 8192 * ((u 0).val / 8192) + nth (rowK f ⟨_, blk_lt u⟩) ((u 0).val % 8192) = _
  rw [e, hb, rowKeys_eq]

theorem g_of_ok {fg : Vec F S32x8192 .f32} (h : FOk (rowKeys (F := F) i d fV f) ((rowM gV i).view.read (Elt F) fg))
    (z : S32x8192.Idx) (hz : z ∈ rowIdx (tileNo i)) : fg z = fVal f z := by
  have hb : (z 0).val = tileNo i := (Finset.mem_filter.mp hz).2
  have e : z 0 = tileB i := Fin.ext hb
  have h' := h (ix (z 1).val (z 1).isLt)
  rw [row_read', rowKeys_eq] at h'
  have ez : z = at2 (tileB i) (⟨(z 1).val, (z 1).isLt⟩ : Fin 8192) := ext2 hb rfl
  unfold fVal
  rw [e]
  exact (congrArg fg ez).trans h'

set_option maxHeartbeats 1000000 in
/-- The task of the tile, from what it is dealt. -/
theorem tile_body (hF : (K (F := F)).Facts) (O : CellTallies nD τ sig (HIx 1)) (W : Waits sig (HIx 1)) (hO : ∀ g, O g none = 0) :
    iprop(levAts (K (F := F)).L (K (F := F)).lev ∗ emp ∗ dealt d i X f y0 g0
        ∗ scopedBufs (thr d i) ∗ scopedSems0 (thr d i) ∗ owes (thr d i) O W)
      ⊢ wp frame (wpE (defs₀ (F := F)) 𝒱₀ (thr d i) none) Set.univ
          (cc0__sc_sort_gather i xV (Memref.isWhole_whole _) fV (Memref.isWhole_whole _) yV (Memref.isWhole_whole _) gV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17)
          fun _ => iprop(dealt d i X f (yVal X f) (fVal f)
            ∗ scopedBufs (thr d i) ∗ scopedSems0 (thr d i)
            ∗ ∃ W', ⌜∀ p ∈ W', p ∈ W ∨ p.2 = none⌝ ∗ owes (thr d i) O W') := by
  obtain ⟨RS, hS⟩ := ownSems0_V (F := F) d (cV i) (jV i)
  obtain ⟨RB, hB⟩ := ownBufs_V (F := F) d (cV i) (jV i)
  rw [(K (F := F)).scopedBufs_V hF d (cV i) (jV i), SparseCore.Cfg.scopedSems0_V (Val := Elt F) d (cV i) (jV i), hS, hB,
    ← scr_whole d i cc0_scratch0, ← scr_whole d i cc0_scratch1, ← scr_whole d i cc0_scratch2, ← scr_whole d i cc0_scratch3, ← scr_whole d i cc0_scratch4,
    ← scr_whole d i cc0_scratch5, ← scr_whole d i cc0_scratch6]
  unfold dealt
  have ht := tile (F := F) (d := d) (i := i) O W xV (Memref.isWhole_whole _) fV (Memref.isWhole_whole _) yV (Memref.isWhole_whole _) gV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 (xq i) fullShare X f
  refine wp_around (R := iprop(RB ∗ RS)) ht ?_ ?_
  · unfold Mem ow
    rw [row_set, blk_set, show (xV).view.set = Finset.univ from View.set_whole _]
    iintro ⟨#Hlv, -, ⟨Hx, Hf, Hy, Hg⟩, ⟨Hbufs, HRB⟩, ⟨⟨⟨Hr0, Hr1⟩, Hg1, Hg2, Hg3⟩, HRS⟩, HO⟩
    ihave Hmw := (show levAts (K (F := F)).L (K (F := F)).lev ⊢ Transfers.MayWaits (thr d i) (default : HIx 1) O from
      (K (F := F)).mayWaits_none (thr := thr d i) hO) $$ Hlv
    isplitr [HRB HRS]
    · isplitl [Hx]; · iexact Hx
      isplitl [Hf]; · iexact Hf
      isplitl [Hy]
      · iexists y0
        isplitr; · ipureintro; trivial
        iexact Hy
      isplitl [Hg]
      · unfold scr
        rw [row_set']
        iexists g0
        isplitr; · ipureintro; trivial
        iexact Hg
      isplitl [Hbufs]; · iexact Hbufs
      isplitl [Hr0 Hr1 Hg1 Hg2 Hg3]
      · isplitl [Hr0]; · iexact Hr0
        isplitl [Hr1]; · iexact Hr1
        isplitl [Hg1]; · iexact Hg1
        isplitl [Hg2]; · iexact Hg2
        iexact Hg3
      iexists W
      isplitr; · ipureintro; exact fun p hp => Or.inl hp
      isplitl [HO]; · iexact HO
      iexact Hmw
    isplitl [HRB]; · iexact HRB
    iexact HRS
  · unfold Mem ow
    rw [row_set, blk_set, show (xV).view.set = Finset.univ from View.set_whole _]
    iintro ⟨⟨Hx, Hf, ⟨%fy, %hy, Hy⟩, Hg, Hbufs, ⟨Hr0, Hr1, Hg1, Hg2, Hg3⟩, ⟨%W', %hW, HO, -⟩⟩, HRB, HRS⟩
    isplitl [Hx Hf Hy Hg]
    · isplitl [Hx]; · iexact Hx
      isplitl [Hf]; · iexact Hf
      isplitl [Hy]
      · iapply (Entails.of_eq (pointsTo_congr (ℓ := yLoc d) (I := blkIdx (tileNo i)) (q := fullShare) (f := fy) (g := yVal X f)
          (fun u hu => y_of_ok (F := F) d i X f hy u hu)))
        iexact Hy
      unfold scr
      rw [row_set']
      icases Hg with ⟨%fg, %hg, Hg⟩
      iapply (Entails.of_eq (pointsTo_congr (ℓ := gLoc d) (I := rowIdx (tileNo i)) (q := fullShare) (f := fg) (g := fVal f)
        (fun z hz => g_of_ok (F := F) d i f hg z hz)))
      iexact Hg
    isplitl [Hbufs HRB]
    · isplitl [Hbufs]; · iexact Hbufs
      iexact HRB
    isplitl [Hr0 Hr1 Hg1 Hg2 Hg3 HRS]
    · isplitr [HRS]
      · isplitl [Hr0 Hr1]
        · isplitl [Hr0]; · iexact Hr0
          iexact Hr1
        isplitl [Hg1]; · iexact Hg1
        isplitl [Hg2]; · iexact Hg2
        iexact Hg3
      iexact HRS
    iexists W'
    isplitr; · ipureintro; exact hW
    iexact HO

end Body

section Call

variable (m : (ℓ : Loc nD τ sig) → Buf (Elt F) ℓ) (ρ : Dev nD → PrngReg)

/-- `x` with its rows in one column of blocks. -/
def xFlat (d : Dev nD) : Vec F S262144x128 .f32 := shapeCast S262144x128 (m (aLoc d) : Vec F S32x8192x128 .f32) shapeCasts_S32x8192x128_S262144x128

abbrev fit (d : Dev nD) : Vec F S32x8192 .f32 := m (fLoc d)

/-- What the tile of grid coordinates `i` takes. -/
abbrev takes (d : Dev nD) (i : grid0.Coords) : sProp 𝕄 := dealt d i (xFlat m d) (fit m d) (m (yLoc d)) (m (gLoc d))
/-- What it hands back. -/
abbrev brings (d : Dev nD) (i : grid0.Coords) : sProp 𝕄 := dealt d i (xFlat m d) (fit m d) (yVal (xFlat m d) (fit m d)) (fVal (fit m d))

/-- The tile of a SparseCore of the call and a subcore of it. -/
abbrev tileOf (c : Fin ((K (F := F)).nCore 0)) (s : Fin ((K (F := F)).nSub 0)) : grid0.Coords := coordsV ⟨c.val, c.isLt⟩ ⟨s.val, s.isLt⟩

/-- Each SparseCore takes what its sixteen tiles take. -/
def P : (K (F := F)).Pay (nD := nD) (Val := Elt F) (Name := ℕ) (U := UU) where
  st := fun q d c => match q with | 0 => bigSep Finset.univ fun s => takes m d (tileOf (F := F) c s)
  dn := fun q d c => match q with | 0 => bigSep Finset.univ fun s => brings m d (tileOf (F := F) c s)
  go := fun q d c s => match q with | 0 => takes m d (tileOf (F := F) c s)
  td := fun q d c s => match q with | 0 => brings m d (tileOf (F := F) c s)
  x := fun _ _ => iprop(emp)

instance P_storable : (P (F := F) m).IsStorable where
  st q d c := match q with
    | 0 => (inferInstance : BI.Storable (upEmb : UEmb _ 𝕄) (bigSep Finset.univ fun s => takes m d (tileOf (F := F) c s)))
  dn q d c := match q with
    | 0 => (inferInstance : BI.Storable (upEmb : UEmb _ 𝕄) (bigSep Finset.univ fun s => brings m d (tileOf (F := F) c s)))
  go q d c s := match q with
    | 0 => (inferInstance : BI.Storable (upEmb : UEmb _ 𝕄) (takes m d (tileOf (F := F) c s)))
  td q d c s := match q with
    | 0 => (inferInstance : BI.Storable (upEmb : UEmb _ 𝕄) (brings m d (tileOf (F := F) c s)))

theorem defs₀_vector (c : Fin τ.nSC) (s : Fin τ.nSub) :
    defs₀ (F := F) (.scVector c s) 0 ()
      = SparseCore.onTile hcore0 hsub0 (fun c s => cc0__sc_sort_gather (coordsV c s) xV (Memref.isWhole_whole _) fV (Memref.isWhole_whole _) yV (Memref.isWhole_whole _) gV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %hW', HO⟩
  iexists W'
  isplitr; · ipureintro; exact fun p hp => (hW' p hp).imp_right Or.inl
  iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (xFlat m d) (fit m d) (m (yLoc d)) (m (gLoc d)) hF O W hO).trans (wp_mono frame _ _ fun _ => obl_post)

theorem vecSplit : (K (F := F)).VecSplit' (P m) 0 := by
  intro d c
  show (bigSep Finset.univ fun s => takes m d (tileOf (F := F) c s)) ⊢ |={Set.univ}=> iprop(
      (bigSep Finset.univ fun s => takes m d (tileOf (F := F) c s))
      ∗ ((bigSep Finset.univ fun s => brings m d (tileOf (F := F) c s)) -∗ (bigSep Finset.univ fun s => brings m d (tileOf (F := F) c s))))
  iintro H; imodintro
  isplitl [H]; · iexact H
  iintro H
  iexact H

end Call

end Cert.Sort
-- ==== Proof.Run.lean ====
/-
  The whole program: the reshape of `x`, the call, the reshape of its first result; and what its run leaves.
-/
module

public import proofs.«01_k».proof.Proof.Launch

@[expose] public section

noncomputable section

namespace Cert.Sort

open Cert.Kernel Cert.Kernel.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## The arrays split over the tiles -/

abbrev Cores : Type := Fin ((K (F := F)).nCore 0)
abbrev Subs : Type := Fin ((K (F := F)).nSub 0)

theorem tileOf_no (c : Cores (F := F)) (s : Subs (F := F)) : tileNo (tileOf (F := F) c s) = 2 * s.val + c.val := rfl

theorem tiles_split {ℓ : Loc nD τ sig} (q : PosShare TreeShare) (Sf : ℕ → Finset (Idx ℓ)) (hd : ∀ a b, a ≠ b → Disjoint (Sf a) (Sf b))
    (hc : ∀ z, ∃ b, b < 32 ∧ z ∈ Sf b) (f : Buf (Elt F) ℓ) :
    (ℓ ↦{q} f : sProp 𝕄) = bigSep Finset.univ fun c : Cores (F := F) => bigSep Finset.univ fun s : Subs (F := F) => ℓ ↦[Sf (tileNo (tileOf (F := F) c s))]{q} f := by
  classical
  rw [← bigSep_univ_prod (fun p : Cores (F := F) × Subs (F := F) => (ℓ ↦[Sf (tileNo (tileOf (F := F) p.1 p.2))]{q} f : sProp 𝕄)),
    ← pointsTo_biUnion Finset.univ (fun p : Cores (F := F) × Subs (F := F) => Sf (tileNo (tileOf (F := F) p.1 p.2)))]
  · rw [show (Finset.univ.biUnion fun p : Cores (F := F) × Subs (F := F) => Sf (tileNo (tileOf (F := F) p.1 p.2))) = Finset.univ from ?_]
    refine Finset.eq_univ_iff_forall.mpr fun z => ?_
    obtain ⟨b, hb, hz⟩ := hc z
    refine Finset.mem_biUnion.mpr ⟨(⟨b % 2, Nat.mod_lt _ (by decide)⟩, ⟨b / 2, (by omega : b / 2 < 16)⟩), Finset.mem_univ _, ?_⟩
    rw [tileOf_no]
    show z ∈ Sf (2 * (b / 2) + b % 2)
    rwa [Nat.div_add_mod]
  · intro p _ p' _ hne
    refine hd _ _ fun e => hne ?_
    rw [tileOf_no, tileOf_no] at e
    have h1 : p.1.val < 2 := p.1.isLt
    have h2 : p'.1.val < 2 := p'.1.isLt
    exact Prod.ext (Fin.ext (by omega)) (Fin.ext (by omega))

theorem rows_disjoint (a b : ℕ) (h : a ≠ b) : Disjoint (rowIdx a) (rowIdx b) :=
  Finset.disjoint_filter.mpr fun _ _ h1 h2 => h (h1.symm.trans h2)
theorem blks_disjoint (a b : ℕ) (h : a ≠ b) : Disjoint (blkIdx a) (blkIdx b) :=
  Finset.disjoint_filter.mpr fun _ _ h1 h2 => h (h1.symm.trans h2)
theorem rows_cover (z : S32x8192.Idx) : ∃ b, b < 32 ∧ z ∈ rowIdx b := ⟨_, (z 0).isLt, Finset.mem_filter.mpr ⟨Finset.mem_univ _, rfl⟩⟩
set_option maxRecDepth 4096 in
theorem blks_cover (z : S262144x128.Idx) : ∃ b, b < 32 ∧ z ∈ blkIdx b := ⟨_, blk_lt z, Finset.mem_filter.mpr ⟨Finset.mem_univ _, rfl⟩⟩

theorem x_split (d : Dev nD) (X : Vec F S262144x128 .f32) :
    (xLoc d ↦{fullShare} X : sProp 𝕄) = bigSep Finset.univ fun c : Cores (F := F) => bigSep Finset.univ fun s : Subs (F := F) => xLoc d ↦{xq (tileOf (F := F) c s)} X := by
  have h (q : PosShare TreeShare) (o : ℕ) (ho : 0 < o) : (xLoc d ↦{q} X : sProp 𝕄) = bigSep Finset.univ fun j : Fin o => xLoc d ↦{pieceOf q o ho j} X :=
    pointsTo_piecesOf (ℓ := xLoc d) Finset.univ X ho q
  rw [h fullShare 2 (by decide)]
  refine bigSep_congr fun c _ => ?_
  rw [h _ 16 (by decide)]
  rfl

/-- What the two SparseCores' tiles are dealt is the four arrays whole. -/
theorem dealt_all (d : Dev nD) (X : Vec F S262144x128 .f32) (f : Vec F S32x8192 .f32) (y : Vec F S262144x128 .f32) (g : Vec F S32x8192 .f32) :
    (bigSep Finset.univ fun c : Cores (F := F) => bigSep Finset.univ fun s : Subs (F := F) => dealt d (tileOf (F := F) c s) X f y g)
      = (iprop((xLoc d ↦{fullShare} X) ∗ (fLoc d ↦{fullShare} f) ∗ (yLoc d ↦{fullShare} y) ∗ (gLoc d ↦{fullShare} g)) : sProp 𝕄) := by
  rw [x_split d X, tiles_split (ℓ := fLoc d) fullShare rowIdx rows_disjoint rows_cover f, tiles_split (ℓ := yLoc d) fullShare blkIdx blks_disjoint blks_cover y,
    tiles_split (ℓ := gLoc d) fullShare rowIdx rows_disjoint rows_cover g]
  unfold dealt
  simp only [bigSep_sep']

section Call

variable (m : (ℓ : Loc nD τ sig) → Buf (Elt F) ℓ) (ρ : Dev nD → PrngReg)

theorem st0_eq (d : Dev nD) : (bigSep Finset.univ fun c : Cores (F := F) => (P m).st 0 d c)
    = (iprop((xLoc d ↦{fullShare} xFlat m d) ∗ (fLoc d ↦{fullShare} m (fLoc d)) ∗ (yLoc d ↦{fullShare} m (yLoc d)) ∗ (gLoc d ↦{fullShare} m (gLoc d))) : sProp 𝕄) :=
  dealt_all d _ _ _ _
theorem dn0_eq (d : Dev nD) : (bigSep Finset.univ fun c : Cores (F := F) => (P m).dn 0 d c)
    = (iprop((xLoc d ↦{fullShare} xFlat m d) ∗ (fLoc d ↦{fullShare} m (fLoc d)) ∗ (yLoc d ↦{fullShare} yVal (xFlat m d) (fit m d))
        ∗ (gLoc d ↦{fullShare} fVal (fit m d))) : sProp 𝕄) :=
  dealt_all d _ _ _ _

/-! ## The launch's ghost state -/

def u₀ : UU := (initOf (K (F := F)).hsCells (K (F := F)).hsToks, 1)

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  rw [show (bigSep Finset.univ fun thr : Thread nD τ => bigSep Finset.univ fun q : Fin 1 => (P (F := F) m).x q thr) = bigSep Finset.univ fun _ => (iprop(emp) : sProp 𝕄) from
    bigSep_congr fun _ _ => bigSep_univ_of_subsingleton (0 : Fin 1), bigSep_emps, bigSep_emps]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The program on the TensorCore -/

abbrev aRef : DevRef τ sig := Proc.devRef .tc (main_arg0 : Ref sig .tc)
abbrev xRef : DevRef τ sig := Proc.devRef .tc (main_v0 : Ref sig .tc)
abbrev yRef : DevRef τ sig := Proc.devRef .tc (main_v1_0 : Ref sig .tc)
abbrev rRef : DevRef τ sig := Proc.devRef .tc (main_v2 : Ref sig .tc)

abbrev opIn : HloOp τ sig (Elt F) := StableHlo.reshape main_arg0 main_v0 (rfl : (.f32 : EltTy) = .f32) shapeCasts_S32x8192x128_S262144x128
abbrev opOut : HloOp τ sig (Elt F) := StableHlo.reshape main_v1_0 main_v2 (rfl : (.f32 : EltTy) = .f32) shapeCasts_S262144x128_S32x8192x128

theorem unscopedBufs_eq (d : Dev nD) (W : (b : Ref sig .tc) → Buf (Elt F) ((d.tc : Thread nD τ).loc b)) :
    (unscopedBufs d W : sProp 𝕄) = iprop((aLoc d ↦{fullShare} W main_arg0) ∗ (fLoc d ↦{fullShare} W main_arg1) ∗ (xLoc d ↦{fullShare} W main_v0)
      ∗ (yLoc d ↦{fullShare} W main_v1_0) ∗ (gLoc d ↦{fullShare} W main_v1_1) ∗ (rLoc d ↦{fullShare} W main_v2)) := by
  unfold unscopedBufs
  rw [show (Finset.univ.filter fun b : Ref sig .tc => ¬ b.isScoped) = {main_arg0, main_arg1, main_v0, main_v1_0, main_v1_1, main_v2} by decide,
    SparseCore.bigSep_insert' (by decide), SparseCore.bigSep_insert' (by decide), SparseCore.bigSep_insert' (by decide), SparseCore.bigSep_insert' (by decide),
    SparseCore.bigSep_insert' (by decide), bigSep_singleton]

theorem held_in (d : Dev nD) (W : Valuation τ sig (Elt F)) :
    (held (T d) {aRef, xRef} W : sProp 𝕄) = iprop((aLoc d ↦{fullShare} W aRef) ∗ (xLoc d ↦{fullShare} W xRef)) := by
  unfold held
  rw [SparseCore.bigSep_insert' (by decide), bigSep_singleton]

theorem held_out (d : Dev nD) (W : Valuation τ sig (Elt F)) :
    (held (T d) {yRef, rRef} W : sProp 𝕄) = iprop((yLoc d ↦{fullShare} W yRef) ∗ (rLoc d ↦{fullShare} W rRef)) := by
  unfold held
  rw [SparseCore.bigSep_insert' (by decide), bigSep_singleton]

/-- The first result. -/
def yOut (d : Dev nD) : Vec F S32x8192x128 .f32 := shapeCast S32x8192x128 (yVal (xFlat m d) (fit m d)) shapeCasts_S262144x128_S32x8192x128

def V0 (d : Dev nD) : Valuation τ sig (Elt F) := fun b => m (d, b)
def V1 (d : Dev nD) : Valuation τ sig (Elt F) := Function.update (V0 m d) yRef (yVal (xFlat m d) (fit m d))

theorem V0_a (d : Dev nD) : (opIn (F := F)).result (V0 m d) aRef = m (aLoc d) :=
  (opIn (F := F)).result_of_not_mem (V0 m d) (b := aRef) (show aRef ∉ ({xRef} : Finset (DevRef τ sig)) by decide)
theorem V0_x (d : Dev nD) : (opIn (F := F)).result (V0 m d) xRef = xFlat m d := StableHlo.reshape_result _ _ _ _ _ _ _
theorem V1_y (d : Dev nD) : V1 m d yRef = yVal (xFlat m d) (fit m d) := Function.update_self _ _ _
theorem V1_r (d : Dev nD) : V1 m d rRef = m (rLoc d) := Function.update_of_ne (show rRef ≠ yRef by decide) _ _
theorem V2_r (d : Dev nD) : (opOut (F := F)).result (V1 m d) rRef = yOut m d :=
  (StableHlo.reshape_result _ _ _ _ _ _ _).trans (by rw [V1_y]; rfl)

/-- What the program leaves: its arguments and its two results. -/
abbrev FIN (d : Dev nD) : sProp 𝕄 :=
  iprop((aLoc d ↦{fullShare} m (aLoc d)) ∗ (fLoc d ↦{fullShare} m (fLoc d)) ∗ (rLoc d ↦{fullShare} yOut m d) ∗ (gLoc d ↦{fullShare} fVal (fit m d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hf, Hx, Hy, Hg, Hr⟩, Hts, -⟩, -⟩
  iapply (wp_hlo_within 𝒱 (SparseCore.T d) none Set.univ (op := opIn) (S := {aRef, xRef}) (fun _ h => h) (V := V0 m d)) $$ [Hb Ha Hx]
  · isplitl [Hb]; · iexact Hb
    rw [held_in]
    isplitl [Ha]; · iexact Ha
    iexact Hx
  rw [held_in, V0_a, V0_x]
  iintro ⟨Hb, Ha, Hx⟩
  rw [wp_ret]; imodintro
  iapply ((K (F := F)).wp_run (D (F := F)) 𝒱 (EH := EH) (P := P m) κ d 0) $$ [Hst Ha Hx Hf Hy Hg Hr Hb Hts]
  isplitr; · iexact Hctx
  isplitl [Hst]; · iexact Hst
  isplitl [Hx Hf Hy Hg]
  · rw [st0_eq]
    isplitl [Hx]; · iexact Hx
    isplitl [Hf]; · iexact Hf
    isplitl [Hy]; · iexact Hy
    iexact Hg
  iintro ⟨Hst, Hdn⟩
  ihave Hdn' := (Entails.of_eq (dn0_eq m d)) $$ Hdn
  icases Hdn' with ⟨-, Hf, Hy, Hg⟩
  iapply (wp_hlo_within 𝒱 (SparseCore.T d) none Set.univ (op := opOut) (S := {yRef, rRef}) (fun _ h => h) (V := V1 m d)) $$ [Hb Hy Hr]
  · isplitl [Hb]; · iexact Hb
    rw [held_out, V1_y, V1_r]
    isplitl [Hy]; · iexact Hy
    iexact Hr
  rw [held_out, V2_r]
  iintro ⟨Hb, -, Hr⟩
  rw [wp_ret]; imodintro; imodintro
  isplitl [Hst]; · iexact Hst
  isplitr [Hb Hts]
  · isplitl [Ha]; · iexact Ha
    isplitl [Hf]; · iexact Hf
    isplitl [Hr]; · iexact Hr
    iexact Hg
  isplitl [Hb] <;> iassumption

/-! ## The run -/

def fq (d : Dev nD) (s' : Phys nD τ sig (Elt F)) : Prop :=
  s'.mem.mem (aLoc d) = m (aLoc d) ∧ s'.mem.mem (fLoc d) = m (fLoc d) ∧ s'.mem.mem (rLoc d) = yOut m d ∧ s'.mem.mem (gLoc d) = fVal (fit m d)

theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HS, -⟩
  isplitr; · ipureintro; exact funext fun z => h z (Finset.mem_univ z)
  iexact HS

theorem hfin (d : Dev nD) (s' : Phys nD τ sig (Elt F)) : iprop(FIN m d ∗ SI s') ⊢ (⌜fq m d s'⌝ : sProp 𝕄) := by
  iintro ⟨⟨Ha, Hf, Hr, Hg⟩, HS⟩
  icases (agree s' (aLoc d) _) $$ [HS Ha] with ⟨%h1, HS⟩
  · isplitl [HS] <;> iassumption
  icases (agree s' (fLoc d) _) $$ [HS Hf] with ⟨%h2, HS⟩
  · isplitl [HS] <;> iassumption
  icases (agree s' (rLoc d) _) $$ [HS Hr] with ⟨%h3, HS⟩
  · isplitl [HS] <;> iassumption
  icases (agree s' (gLoc d) _) $$ [HS Hg] with ⟨%h4, HS⟩
  · isplitl [HS] <;> iassumption
  ipureintro
  exact ⟨h1, h2, h3, h4⟩

def QC : PUnit × MemSt nD τ sig (Elt F) → Prop := fun r =>
  (∀ c : Dev nD, r.2.mem (aLoc c) = m (aLoc c) ∧ r.2.mem (fLoc c) = m (fLoc c) ∧ r.2.mem (rLoc c) = yOut m c ∧ r.2.mem (gLoc c) = fVal (fit m c))
    ∧ r.2.sem = fun _ => 0

theorem run_main [∀ e, Nonempty (Elt F e)] :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Call

end Cert.Sort
-- ==== Proof.Take.lean ====
/-
  The reference's results: its gather along the rows read at an index, and both results as the functions the kernel's
  run leaves.
-/
module

public import proofs.«01_k».proof.Proof.Order
public import proofs.«01_k».proof.Pre_canonical
public import proofs.«01_k».proof.Proof.Run
public import proofs.«01_k».proof.Proof.Gen.Reference.Run

@[expose] public section

noncomputable section

namespace Cert.Sort

open Cert.Reference Cert.Reference.Gen
open Idealize.ShloMosaic

/-! ## The gather -/

/-- An index of a rank-three array, by its coordinates. -/
def at3 {a b c : ℕ} (r : Fin a) (s : Fin b) (t : Fin c) : (⟨3, ![a, b, c]⟩ : Shape).Idx := fun
  | 0 => r
  | 1 => s
  | 2 => t
  | ⟨_ + 3, h⟩ => absurd h (Nat.not_lt.2 (Nat.le_add_left _ _))

theorem ext3 {a b c : ℕ} {z w : (⟨3, ![a, b, c]⟩ : Shape).Idx} (h0 : (z 0).val = (w 0).val) (h1 : (z 1).val = (w 1).val)
    (h2 : (z 2).val = (w 2).val) : z = w := by
  funext k
  match k with
  | 0 => exact Fin.ext h0
  | 1 => exact Fin.ext h1
  | 2 => exact Fin.ext h2

section Gather

/-- The reference's gather. -/
abbrev G : GatherDims S32x8192x128 S32x8192x1 S32x8192x128 := gather_S32x8192x128_S32x8192x1_S32x8192x128_2_1_0_0_1_2_11128

variable {α : Type} (I : IVec S32x8192 32)

/-- The indices, one to a row of the array taken from. -/
abbrev col : IVec S32x8192x1 32 := broadcastInDim S32x8192x1 ![0, 1] bcast_S32x8192_S32x8192x1_0_1 I

/-- The indices, those below zero counted from the end. -/
abbrev wrap : IVec S32x8192x1 32 :=
  select (cmpi .slt (col I) (broadcastInDim S32x8192x1 ![] bcast_S_S32x8192x1 (constantI S_ 32 0#32)))
    (addi (col I) (broadcastInDim S32x8192x1 ![] bcast_S_S32x8192x1 (constantI S_ 32 8192#32))) (col I)

/-- Whether an index is inside. -/
abbrev inside : IVec S32x8192 1 :=
  Host.reduce IntOp.andi (andi (cmpi .sge (wrap I) (broadcastInDim S32x8192x1 ![] bcast_S_S32x8192x1 (constantI S_ 32 0#32)))
    (cmpi .sle (wrap I) (broadcastInDim S32x8192x1 ![0, 1, 2] bcast_S1x1x1_S32x8192x1_0_1_2 (broadcastInDim S1x1x1 ![2] bcast_S1_S1x1x1_2 (constantI S1 32 8191#32)))))
    (constantI S_ 1 1#1) reducesTo_S32x8192x1_S32x8192_d2 h_S_

variable (n : Fin 32 → Fin 8192 → Fin 8192) (hI : ∀ b r, I (at2 b r) = BitVec.ofNat 32 (n b r).val)
include hI

theorem col_at (u : S32x8192x1.Idx) : col I u = BitVec.ofNat 32 (n (u 0) (u 1)).val := by
  refine Eq.trans (congrArg I (ext2 ?_ ?_)) (hI (u 0) (u 1))
  · rfl
  · rfl

omit hI in
theorem small (k : Fin 8192) : IntOp.cmpi .slt (BitVec.ofNat 32 k.val) 0#32 = 0#1 ∧ IntOp.cmpi .sge (BitVec.ofNat 32 k.val) 0#32 = 1#1
    ∧ IntOp.cmpi .sle (BitVec.ofNat 32 k.val) 8191#32 = 1#1 ∧ (BitVec.ofNat 32 k.val).toInt.toNat = k.val := by
  have hk := k.isLt
  have h1 : (BitVec.ofNat 32 k.val).toInt = (k.val : ℤ) := by
    rw [BitVec.toInt_eq_toNat_cond, BitVec.toNat_ofNat, Nat.mod_eq_of_lt (by omega), if_pos (by omega)]
  have h2 : (0#32).toInt = 0 := by decide
  have h3 : (8191#32).toInt = 8191 := by decide
  refine ⟨?_, ?_, ?_, by rw [h1]; omega⟩
  · show BitVec.ofBool (decide _) = _
    rw [decide_eq_false (by rw [h1, h2]; omega)]; rfl
  · show BitVec.ofBool (decide _) = _
    rw [decide_eq_true (by rw [h1, h2]; omega)]; rfl
  · show BitVec.ofBool (decide _) = _
    rw [decide_eq_true (by rw [h1, h3]; omega)]; rfl

theorem wrap_at (u : S32x8192x1.Idx) : wrap I u = BitVec.ofNat 32 (n (u 0) (u 1)).val := by
  show Scalar.select (IntOp.cmpi .slt (col I u) 0#32) (IntOp.addi (col I u) 8192#32) (col I u) = _
  rw [col_at I n hI, (small _).1]
  rfl

omit hI in
theorem fold_ones {ι : Type} (x : ι → BitVec 1) (h : ∀ i, x i = 1#1) : ∀ l : List ι, l.foldl (fun r i => IntOp.andi r (x i)) 1#1 = 1#1
  | [] => rfl
  | a :: l => by rw [List.foldl_cons, h a]; exact fold_ones x h l

theorem inside_at (z : S32x8192.Idx) : inside I z = 1#1 := by
  refine fold_ones _ (fun k => ?_) _
  show IntOp.andi (IntOp.cmpi .sge (wrap I _) 0#32) (IntOp.cmpi .sle (wrap I _) 8191#32) = _
  rw [wrap_at I n hI, (small _).2.1, (small _).2.2.1]
  rfl

theorem start_at (z : S32x8192x128.Idx) : G.start z (wrap I) 1 = (n (z 0) (z 1)).val := by
  unfold GatherDims.start
  rw [dif_pos (show (1 : Fin 3) ∈ G.startIndexMap from List.mem_singleton.mpr rfl)]
  refine Eq.trans (congrArg (fun w : BitVec 32 => min w.toInt.toNat 8191) (wrap_at I n hI _)) ?_
  rw [(small _).2.2.2]
  have h := (n (z 0) (z 1)).isLt
  exact Nat.min_eq_left (show (n (z 0) (z 1)).val ≤ 8191 by omega)

theorem gather_at (x : S32x8192x128.Idx → α) (z : S32x8192x128.Idx) : Host.gather G x (wrap I) z = x (at3 (z 0) (n (z 0) (z 1)) (z 2)) := by
  unfold Host.gather
  refine congrArg x (ext3 ?_ ?_ ?_)
  · show G.start z (wrap I) 0 + G.batchCoord z 0 + G.offCoord z 0 = (z 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ G.operandBatchingDims from List.mem_singleton.mpr rfl)]
    rfl
  · show G.start z (wrap I) 1 + G.batchCoord z 1 + G.offCoord z 1 = (n (z 0) (z 1)).val
    rw [GatherDims.batchCoord_eq_zero _ _ _ (show (1 : Fin 3) ∉ [(0 : Fin 3)] by decide),
      GatherDims.offCoord_eq_zero _ _ _ (fun h => ((GatherDims.mem_sKept _ _).mp h).1 (List.mem_singleton.mpr rfl))]
    exact start_at I n hI z
  · show G.start z (wrap I) 2 + G.batchCoord z 2 + G.offCoord z 2 = (z 2).val
    rw [GatherDims.batchCoord_eq_zero _ _ _ (show (2 : Fin 3) ∉ [(0 : Fin 3)] by decide)]
    unfold GatherDims.start
    rw [dif_neg (show (2 : Fin 3) ∉ G.startIndexMap from show (2 : Fin 3) ∉ [(1 : Fin 3)] by decide)]
    simp only [Nat.zero_add]
    unfold GatherDims.offCoord
    rw [dif_pos ((GatherDims.mem_sKept G _).mpr ⟨show (2 : Fin 3) ∉ [(1 : Fin 3)] by decide, show (2 : Fin 3) ∉ [(0 : Fin 3)] by decide⟩)]
    rfl

end Gather

/-! ## Both results -/

theorem shapeCast_eq {s t : Shape} {α : Type} (x : s.Idx → α) (h : s.ShapeCasts t) (j : t.Idx) (k : s.Idx) (hk : (s.rowMajor k).val = (t.rowMajor j).val) :
    shapeCast t x h j = x k := congrArg x (Shape.reshapeEquiv_eq_of_rowMajor h hk)

/-- A row of the flat array and its block and place. -/
theorem flat_eq (b r c : ℕ) : (8192 * b + r) * 128 + c = (b * 8192 + r) * 128 + c := by rw [Nat.mul_comm 8192 b]

theorem flat_div {b r : ℕ} (h : r < 8192) : (8192 * b + r) / 8192 = b := by omega
theorem flat_mod {b r : ℕ} (h : r < 8192) : (8192 * b + r) % 8192 = r := by omega
theorem flat_lt {b r : ℕ} (hb : b < 32) (h : r < 8192) : 8192 * b + r < 262144 := by omega

abbrev S3 : Shape := ⟨3, ![32, 8192, 128]⟩
abbrev S2 : Shape := ⟨2, ![262144, 128]⟩

theorem flat_of {α : Type} (x : S3.Idx → α) (h : S3.ShapeCasts S2) (b : Fin 32) (r : Fin 8192) (c : Fin 128) :
    shapeCast S2 x h (at2 ⟨8192 * b.val + r.val, flat_lt b.isLt r.isLt⟩ c) = x (at3 b r c) := by
  refine shapeCast_eq x h _ _ ?_
  refine (Shape.rowMajor_val_three _).trans (Eq.trans ?_ (Shape.rowMajor_val_two _).symm)
  exact (flat_eq b.val r.val c.val).symm

theorem of_flat {α : Type} (y : S2.Idx → α) (h : S2.ShapeCasts S3) (z : S3.Idx) :
    shapeCast S3 y h z = y (at2 ⟨8192 * (z 0).val + (z 1).val, flat_lt (z 0).isLt (z 1).isLt⟩ (z 2)) := by
  refine shapeCast_eq y h _ _ ?_
  refine (Shape.rowMajor_val_two _).trans (Eq.trans ?_ (Shape.rowMajor_val_three _).symm)
  exact flat_eq (z 0).val (z 1).val (z 2).val

theorem yVal_of {F : FTy → Type} [BitOps F] (xs : Vec F S2 .f32) (f : Vec F S32x8192 .f32) (u : S2.Idx) (b : Fin 32) (r : Fin 8192)
    (hb : (u 0).val / 8192 = b.val) (hr : (u 0).val % 8192 = r.val) :
    yVal xs f u = xs (at2 ⟨8192 * b.val + nth (rowK f b) r.val, flat_lt b.isLt (nth_lt _ _)⟩ (u 1)) := by
  have key : ∀ (q k : ℕ) (h : q < 32), q = b.val → k = r.val → 8192 * q + nth (rowK f ⟨q, h⟩) k = 8192 * b.val + nth (rowK f b) r.val := by
    rintro q k h rfl rfl; rfl
  have e := key _ _ (blk_lt u) hb hr
  unfold yVal
  refine congrArg xs (congrArg (fun q : Fin 262144 => at2 q (u 1 : Fin 128)) (Fin.ext ?_))
  exact e

/-- What the kernel leaves, at an index: the row of `x` whose fitness has the index's place in its order. -/
theorem moved_at {F : FTy → Type} [BitOps F] (x : Vec F S3 .f32) (f : Vec F S32x8192 .f32) (z : S3.Idx) (h : S3.ShapeCasts S2) (h' : S2.ShapeCasts S3) :
    shapeCast S3 (yVal (shapeCast S2 x h) f) h' z = x (at3 (z 0) ⟨nth (rowK f (z 0)) (z 1).val, nth_lt _ _⟩ (z 2)) :=
  (of_flat _ h' z).trans ((yVal_of _ f _ (z 0) (z 1) (flat_div (z 1).isLt) (flat_mod (z 1).isLt)).trans (flat_of x h (z 0) ⟨nth (rowK f (z 0)) (z 1).val, nth_lt _ _⟩ (z 2)))

/-- The reference's first result is the kernel's. -/
theorem ref_take (x : Vec Bits S32x8192x128 .f32) (f : Vec Bits S32x8192 .f32) (hf : ∀ z, norm (f z) = f z) :
    select (broadcastInDim S32x8192x128 ![0, 1] bcast_S32x8192_S32x8192x128_0_1
        (inside (Host.sort2 S32x8192 1 (comparator_f32_i32_d1 (F := Bits)) f (iotaInDim S32x8192 32 1)).2))
      (Host.gather G x (wrap (Host.sort2 S32x8192 1 (comparator_f32_i32_d1 (F := Bits)) f (iotaInDim S32x8192 32 1)).2))
      (broadcastInDim S32x8192x128 ![] bcast_S_S32x8192x128 (constant (F := Bits) S_ .f32 0x7FC00000#32))
    = shapeCast Cert.Kernel.S32x8192x128 (yVal (F := Bits) (shapeCast Cert.Kernel.S262144x128 x Cert.Kernel.Gen.shapeCasts_S32x8192x128_S262144x128) f)
        Cert.Kernel.Gen.shapeCasts_S262144x128_S32x8192x128 := by
  have hI : ∀ (b : Fin 32) (r : Fin 8192), (Host.sort2 S32x8192 1 (comparator_f32_i32_d1 (F := Bits)) f (iotaInDim S32x8192 32 1)).2 (at2 b r)
      = BitVec.ofNat 32 (⟨nth (rowK (F := Bits) f b) r.val, nth_lt _ _⟩ : Fin 8192).val := fun b r => by
    rw [ref_argsort f hf]; rfl
  funext z
  refine Eq.trans ?_ (moved_at (F := Bits) x f z _ _).symm
  refine Eq.trans ?_ (gather_at _ (fun b r => ⟨nth (rowK (F := Bits) f b) r.val, nth_lt _ _⟩) hI x z)
  have h1 : broadcastInDim S32x8192x128 ![0, 1] bcast_S32x8192_S32x8192x128_0_1
        (inside (Host.sort2 S32x8192 1 (comparator_f32_i32_d1 (F := Bits)) f (iotaInDim S32x8192 32 1)).2) z = 1#1 := by
    unfold broadcastInDim
    exact inside_at _ (fun b r => ⟨nth (rowK (F := Bits) f b) r.val, nth_lt _ _⟩) hI _
  show Scalar.select (broadcastInDim S32x8192x128 ![0, 1] bcast_S32x8192_S32x8192x128_0_1
        (inside (Host.sort2 S32x8192 1 (comparator_f32_i32_d1 (F := Bits)) f (iotaInDim S32x8192 32 1)).2) z) _ _ = _
  rw [h1]
  rfl

/-- The precondition, at an index. -/
theorem canonical_at [Cert.Pre_canonical.Facts] (x : Vec Bits S32x8192x128 .f32) (f : Vec Bits S32x8192 .f32)
    (h : Cert.Pre_canonical.fn (F := Bits) x f = fun _ => 1#1) (z : S32x8192.Idx) : norm (f z) = f z := by
  have h1 : IntOp.cmpi .eq (norm (f z) : BitVec 32) (f z : BitVec 32) = 1#1 := congrFun h z
  have h2 : BitVec.ofBool ((norm (f z) : BitVec 32) == (f z : BitVec 32)) = 1#1 := h1
  cases h3 : ((norm (f z) : BitVec 32) == (f z : BitVec 32))
  · rw [h3] at h2; exact absurd h2 (by decide)
  · exact eq_of_beq h3

end Cert.Sort
-- ==== Proof.lean ====
/-
  The certificate's claim: the kernel's run (Proof/Run.lean) leaves in its two results the rows of `x` in the order of
  their fitnesses and the fitnesses in order; the reference's run leaves the same (Proof/Take.lean), for fitnesses the
  precondition admits.
-/
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Gen.Reference.Run
public import proofs.«01_k».proof.Proof.Take
public import Idealize.ShloMosaic.Adequacy
public import Idealize.ShloMosaic.Init

@[expose] public section

noncomputable section

namespace Cert.Proof

open Idealize.ShloMosaic Idealize.SL.Sem Cert.Kernel

/-- The facts the precondition states. -/
instance preFacts : Cert.Pre_canonical.Facts where
  bcast_S_S32x8192 := by decide

theorem frame_k (m : (ℓ : Loc nD τ sig) → Buf (Elt Bits) ℓ) (g : Dev nD → PrngReg) :
    θ_run (Cert.Kernel.defs (F := Bits)) (Cert.Kernel.threads (F := Bits)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (Cert.Kernel.defs (F := Bits)) _ _).mono (fun _ h => ⟨fun c => ⟨(h.1 c).1, (h.1 c).2.1⟩, h.2⟩) (Cert.Sort.run_main (F := Bits) m g)

theorem frame_r (m : (ℓ : Loc Cert.Reference.nD Cert.Reference.τ Cert.Reference.sig) → Buf (Elt Bits) ℓ) (g : Dev Cert.Reference.nD → PrngReg) :
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0) :=
  (θ_run (Cert.Reference.defs (F := Bits)) _ _).mono
    (fun r h => ⟨fun c => (h c).2.2, Idealize.ShloMosaic.sem_eq_zero_of_no_sems (by decide) r.2⟩) (Cert.Reference.Value.run (F := Bits) m g)

theorem bitexact : Cert.bitexact_Kernel_Reference_pre_canonical := by
  intro m g m' g' hpre hagree
  refine ⟨fun c => Cert.Sort.yOut (F := Bits) m c, fun c => Cert.Sort.fVal (F := Bits) (Cert.Sort.fit m c),
    (θ_run (Cert.Kernel.defs (F := Bits)) _ _).mono (fun _ h c => ⟨(h.1 c).2.2.1, (h.1 c).2.2.2, (h.1 c).1, (h.1 c).2.1⟩) (Cert.Sort.run_main (F := Bits) m g),
    (θ_run (Cert.Reference.defs (F := Bits)) _ _).mono (fun _ h c => ⟨(h c).1.trans ?_, (h c).2.1.trans ?_, (h c).2.2.1, (h c).2.2.2⟩)
      (Cert.Reference.Value.run (F := Bits) m' g')⟩
  · have hf := Cert.Sort.canonical_at _ _ (hpre c)
    rw [(hagree c).1, (hagree c).2]
    exact Cert.Sort.ref_take _ _ hf
  · have hf := Cert.Sort.canonical_at _ _ (hpre c)
    rw [(hagree c).2]
    exact Cert.Sort.ref_sort _ hf

theorem claim : Cert.Claim :=
  ⟨Cert.Kernel.Gen.facts, Cert.Reference.Gen.facts, preFacts, fun m g _ => frame_k m g, fun m g _ => frame_k m g,
    fun m g _ => frame_r m g, fun m g _ => frame_r m g, bitexact⟩

end Cert.Proof

end
